-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x1024 : Shape := ⟨2, ![2, 1024]⟩
abbrev S1024x1024 : Shape := ⟨2, ![1024, 1024]⟩
abbrev S4x2x1024 : Shape := ⟨3, ![4, 2, 1024]⟩
abbrev S3 : Shape := ⟨1, ![3]⟩
abbrev S1024 : Shape := ⟨1, ![1024]⟩
abbrev S1x1024 : Shape := ⟨2, ![1, 1024]⟩
abbrev S_ : Shape := ⟨0, ![]⟩
abbrev S1x2x1024 : Shape := ⟨3, ![1, 2, 1024]⟩
abbrev S1 : Shape := ⟨1, ![1]⟩
abbrev S4x1x1024 : Shape := ⟨3, ![4, 1, 1024]⟩
abbrev S4x1024 : Shape := ⟨2, ![4, 1024]⟩

abbrev nBuf : Space → Nat
  | .hbm => 2
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S2x1024, .f32⟩
  | .local _ .vmem, ⟨4, _⟩ => ⟨S4x2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_5 : BitVec 32 := 0#32
  let v28 : BitVec 1 := Scalar.cmpi .ne v27 c0_i32_5
  v28

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v30 : BitVec 32 := Scalar.addi v2 c1_i32_6
  let c4_i32_7 : BitVec 32 := 4#32
  let c0_i32_8 : BitVec 32 := 0#32
  let v31 : BitVec 1 := Scalar.cmpi .eq c4_i32_7 c0_i32_8
  let c1_i32_9 : BitVec 32 := 1#32
  let v32 : BitVec 32 := Scalar.select v31 c1_i32_9 c4_i32_7
  let v33 : BitVec 32 := Scalar.remsi v30 v32
  let c0_i32_11 : BitVec 32 := 0#32
  let v35 : BitVec 1 := Scalar.cmpi .slt v33 c0_i32_11
  let c0_i32_12 : BitVec 32 := 0#32
  let v36 : BitVec 1 := Scalar.cmpi .slt v32 c0_i32_12
  let v37 : BitVec 1 := Scalar.xori v35 v36
  let c0_i32_10 : BitVec 32 := 0#32
  let v34 : BitVec 1 := Scalar.cmpi .ne v33 c0_i32_10
  let v38 : BitVec 1 := Scalar.andi v37 v34
  let v39 : BitVec 32 := Scalar.addi v33 v32
  let v40 : BitVec 32 := Scalar.select v38 v39 v33
  let c1_i32_14 : BitVec 32 := 1#32
  let v41 : BitVec 32 := Scalar.muli v40 c1_i32_14
  let v42 : BitVec 32 := Scalar.addi c0_i32_15 v41
  v42.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v43 : BitVec 32 := Scalar.addi v2 c2_i32
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi v43 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let c1_i32_23 : BitVec 32 := 1#32
  let v54 : BitVec 32 := Scalar.muli v53 c1_i32_23
  let v55 : BitVec 32 := Scalar.addi c0_i32_24 v54
  v55.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v56 : BitVec 32 := Scalar.addi v2 c3_i32
  let c4_i32_25 : BitVec 32 := 4#32
  let c0_i32_26 : BitVec 32 := 0#32
  let v57 : BitVec 1 := Scalar.cmpi .eq c4_i32_25 c0_i32_26
  let c1_i32_27 : BitVec 32 := 1#32
  let v58 : BitVec 32 := Scalar.select v57 c1_i32_27 c4_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c1_i32_32 : BitVec 32 := 1#32
  let v67 : BitVec 32 := Scalar.muli v66 c1_i32_32
  let v68 : BitVec 32 := Scalar.addi c0_i32_33 v67
  v68.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : Index := Scalar.indexCast v2
  let c0_36 : Index := 0#32
  let c0_37 : Index := 0#32
  ![v71.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_50 : BitVec 32 := 0#32
  let c0_i32_51 : BitVec 32 := 0#32
  ![v2.toNat, 0, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v75 : BitVec 32 := Scalar.addi v2 c1_i32_39
  let c4_i32_40 : BitVec 32 := 4#32
  let c0_i32_41 : BitVec 32 := 0#32
  let v76 : BitVec 1 := Scalar.cmpi .eq c4_i32_40 c0_i32_41
  let c1_i32_42 : BitVec 32 := 1#32
  let v77 : BitVec 32 := Scalar.select v76 c1_i32_42 c4_i32_40
  let v78 : BitVec 32 := Scalar.remsi v75 v77
  let c0_i32_44 : BitVec 32 := 0#32
  let v80 : BitVec 1 := Scalar.cmpi .slt v78 c0_i32_44
  let c0_i32_45 : BitVec 32 := 0#32
  let v81 : BitVec 1 := Scalar.cmpi .slt v77 c0_i32_45
  let v82 : BitVec 1 := Scalar.xori v80 v81
  let c0_i32_43 : BitVec 32 := 0#32
  let v79 : BitVec 1 := Scalar.cmpi .ne v78 c0_i32_43
  let v83 : BitVec 1 := Scalar.andi v82 v79
  let v84 : BitVec 32 := Scalar.addi v78 v77
  let v85 : BitVec 32 := Scalar.select v83 v84 v78
  let c1_i32_48 : BitVec 32 := 1#32
  let v86 : BitVec 32 := Scalar.muli v85 c1_i32_48
  let v87 : BitVec 32 := Scalar.addi c0_i32_49 v86
  v87.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_54 : BitVec 32 := 2#32
  let v94 : BitVec 32 := Scalar.addi v2 c2_i32_54
  let c4_i32_55 : BitVec 32 := 4#32
  let c0_i32_56 : BitVec 32 := 0#32
  let v95 : BitVec 1 := Scalar.cmpi .eq c4_i32_55 c0_i32_56
  let c1_i32_57 : BitVec 32 := 1#32
  let v96 : BitVec 32 := Scalar.select v95 c1_i32_57 c4_i32_55
  let v97 : BitVec 32 := Scalar.remsi v94 v96
  let c0_i32_59 : BitVec 32 := 0#32
  let v99 : BitVec 1 := Scalar.cmpi .slt v97 c0_i32_59
  let c0_i32_60 : BitVec 32 := 0#32
  let v100 : BitVec 1 := Scalar.cmpi .slt v96 c0_i32_60
  let v101 : BitVec 1 := Scalar.xori v99 v100
  let c0_i32_58 : BitVec 32 := 0#32
  let v98 : BitVec 1 := Scalar.cmpi .ne v97 c0_i32_58
  let v102 : BitVec 1 := Scalar.andi v101 v98
  let v103 : BitVec 32 := Scalar.addi v97 v96
  let v104 : BitVec 32 := Scalar.select v102 v103 v97
  let c1_i32_63 : BitVec 32 := 1#32
  let v105 : BitVec 32 := Scalar.muli v104 c1_i32_63
  let v106 : BitVec 32 := Scalar.addi c0_i32_64 v105
  v106.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v113 : BitVec 32 := Scalar.addi v2 c3_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c1_i32_78 : BitVec 32 := 1#32
  let v124 : BitVec 32 := Scalar.muli v123 c1_i32_78
  let v125 : BitVec 32 := Scalar.addi c0_i32_79 v124
  v125.toNat
def k0_off3 (d0 : Dev nD) (c1_i32_84 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : BitVec 32 := Scalar.subi v2 c1_i32_84
  let c4_i32_85 : BitVec 32 := 4#32
  let c0_i32_86 : BitVec 32 := 0#32
  let v133 : BitVec 1 := Scalar.cmpi .eq c4_i32_85 c0_i32_86
  let c1_i32_87 : BitVec 32 := 1#32
  let v134 : BitVec 32 := Scalar.select v133 c1_i32_87 c4_i32_85
  let v135 : BitVec 32 := Scalar.remsi v132 v134
  let c0_i32_89 : BitVec 32 := 0#32
  let v137 : BitVec 1 := Scalar.cmpi .slt v135 c0_i32_89
  let c0_i32_90 : BitVec 32 := 0#32
  let v138 : BitVec 1 := Scalar.cmpi .slt v134 c0_i32_90
  let v139 : BitVec 1 := Scalar.xori v137 v138
  let c0_i32_88 : BitVec 32 := 0#32
  let v136 : BitVec 1 := Scalar.cmpi .ne v135 c0_i32_88
  let v140 : BitVec 1 := Scalar.andi v139 v136
  let v141 : BitVec 32 := Scalar.addi v135 v134
  let v142 : BitVec 32 := Scalar.select v140 v141 v135
  let c0_i32_95 : BitVec 32 := 0#32
  let c0_i32_96 : BitVec 32 := 0#32
  ![v142.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Values.lean ====
/- What the buffers of the column-maximum kernel hold.  The accumulator is two rows of 1024 numbers: the
   largest value of each column so far and the row it was first seen at.  The gather buffer is four such
   pairs, one for each device. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.VecWindow
public import Idealize.ShloMosaic.Lib.ValueLayout
public import Idealize.ShloMosaic.Lib.Ring
public import Idealize.ShloMosaic.Lib.Tactic

@[expose] public section

set_option maxRecDepth 16384

noncomputable section

namespace Cert.KernelIdeal.Max

open Cert.KernelIdeal Cert.KernelIdeal.Gen
open Idealize.ShloMosaic Idealize.ShloMosaic.TcCoe
open Idealize.SL Idealize.SL.RA Idealize.SL.BI Idealize.SL.Sem

variable {F : FTy → Type} [FloatOps F]

/-! ## The ring of four devices -/

/-- The device `k + 1` places ahead of `c`. -/
def hop (k : Fin 3) (c : Dev nD) : Dev nD := ⟨(c.val + k.val + 1) % 4, Nat.mod_lt _ (by decide)⟩
/-- The device `k + 1` places behind `c`. -/
def back (k : Fin 3) (c : Dev nD) : Dev nD := ⟨(c.val + 3 - k.val) % 4, Nat.mod_lt _ (by decide)⟩

theorem back_hop (k : Fin 3) (c : Dev nD) : back k (hop k c) = c := by revert k c; decide
theorem hop_back (k : Fin 3) (c : Dev nD) : hop k (back k c) = c := by revert k c; decide
theorem back2 (c : Dev nD) : back 2 c = hop 0 c := by revert c; decide
theorem back1 (c : Dev nD) : back 1 c = hop 1 c := by revert c; decide
theorem back0 (c : Dev nD) : back 0 c = hop 2 c := by revert c; decide
theorem hop_eq_iff (k : Fin 3) (d c : Dev nD) : hop k d = c ↔ d = back k c := by revert k d c; decide

theorem dev1_eq (i : grid0.Coords) (c : Dev nD) (h) : (⟨k0_dev1 c, k0_dev1_lt i c h⟩ : Dev nD) = hop 0 c :=
  Fin.ext (by show k0_dev1 c = (hop 0 c).val; revert c; decide +kernel)
theorem dev2_eq (i : grid0.Coords) (c : Dev nD) (h) : (⟨k0_dev2 c, k0_dev2_lt i c h⟩ : Dev nD) = hop 1 c :=
  Fin.ext (by show k0_dev2 c = (hop 1 c).val; revert c; decide +kernel)
theorem dev3_eq (i : grid0.Coords) (c : Dev nD) (h) : (⟨k0_dev3 c, k0_dev3_lt i c h⟩ : Dev nD) = hop 2 c :=
  Fin.ext (by show k0_dev3 c = (hop 2 c).val; revert c; decide +kernel)
theorem dev4_eq (i : grid0.Coords) (c : Dev nD) (h) : (⟨k0_dev4 c, k0_dev4_lt i c h⟩ : Dev nD) = hop 0 c :=
  Fin.ext (by show k0_dev4 c = (hop 0 c).val; revert c; decide +kernel)
theorem dev5_eq (i : grid0.Coords) (c : Dev nD) (h) : (⟨k0_dev5 c, k0_dev5_lt i c h⟩ : Dev nD) = hop 1 c :=
  Fin.ext (by show k0_dev5 c = (hop 1 c).val; revert c; decide +kernel)
theorem dev6_eq (i : grid0.Coords) (c : Dev nD) (h) : (⟨k0_dev6 c, k0_dev6_lt i c h⟩ : Dev nD) = hop 2 c :=
  Fin.ext (by show k0_dev6 c = (hop 2 c).val; revert c; decide +kernel)

/-! ## Two rows stacked -/

/-- The place of column `i 1` in a single row. -/
def col (i : S2x1024.Idx) : S1x1024.Idx := fun | ⟨0, _⟩ => (0 : Fin 1) | ⟨1, _⟩ => (i 1 : Fin 1024)

/-- Two rows, one above the other. -/
def stack (a b : S1x1024.Idx → Elt F .f32) : S2x1024.Idx → Elt F .f32 :=
  fun i => if (i 0).val = 0 then a (col i) else b (col i)

abbrev row0 : Rect S2x1024 := Rect.unit (s := S2x1024) ![0, 0] S1x1024.size inb_S2x1024_S1x1024_0_0
abbrev row1 : Rect S2x1024 := Rect.unit (s := S2x1024) ![1, 0] S1x1024.size inb_S2x1024_S1x1024_1_0

theorem row0_emb (j : S1x1024.Idx) : col (row0.emb j) = j ∧ ((row0.emb j) 0).val = 0 := by
  refine ⟨funext fun a => Fin.ext ?_, ?_⟩
  · fin_cases a
    · show 0 = (j 0).val; have h : (j 0).val < 1 := (j 0).isLt; omega
    · show 0 + 1 * (j 1).val = (j 1).val; omega
  · show 0 + 1 * (j 0).val = 0; have h : (j 0).val < 1 := (j 0).isLt; omega
theorem row1_emb (j : S1x1024.Idx) : col (row1.emb j) = j ∧ ((row1.emb j) 0).val = 1 := by
  refine ⟨funext fun a => Fin.ext ?_, ?_⟩
  · fin_cases a
    · show 0 = (j 0).val; have h : (j 0).val < 1 := (j 0).isLt; omega
    · show 0 + 1 * (j 1).val = (j 1).val; omega
  · show 1 + 1 * (j 0).val = 1; have h : (j 0).val < 1 := (j 0).isLt; omega
theorem emb_col0 (i : S2x1024.Idx) (h : (i 0).val = 0) : row0.emb (col i) = i := funext fun a => Fin.ext (by
  fin_cases a
  · show 0 + 1 * 0 = (i 0).val; omega
  · show 0 + 1 * (i 1).val = (i 1).val; omega)
theorem emb_col1 (i : S2x1024.Idx) (h : (i 0).val ≠ 0) : row1.emb (col i) = i := funext fun a => Fin.ext (by
  have h2 : (i 0).val < 2 := (i 0).isLt
  fin_cases a
  · show 1 + 1 * 0 = (i 0).val; omega
  · show 0 + 1 * (i 1).val = (i 1).val; omega)

section Rows

variable (v : View sig .tc .vmem S2x1024 .f32) (f : v.ty.Contents (Elt F)) (a b : S1x1024.Idx → Elt F .f32)

/-- Storing the two rows leaves them stacked, whatever the buffer held. -/
theorem read_rows : v.read (Elt F) ((v.slice row1).write (Elt F) ((v.slice row0).write (Elt F) f a Finset.univ) b Finset.univ) = stack a b := by
  funext i
  unfold stack
  by_cases h : (i 0).val = 0
  · rw [if_pos h]
    have hn : v.emb i ∉ (v.slice row1).setOn Finset.univ := by
      intro hm
      obtain ⟨j, -, hj⟩ := Finset.mem_map.mp hm
      have hj' : row1.emb j = i := v.emb.injective hj
      have := (row1_emb j).2
      rw [hj'] at this; omega
    have e : v.read (Elt F) ((v.slice row1).write (Elt F) ((v.slice row0).write (Elt F) f a Finset.univ) b Finset.univ) i
        = v.read (Elt F) ((v.slice row0).write (Elt F) f a Finset.univ) i := by
      rw [View.read_apply, View.read_apply, View.write_of_not_mem _ _ _ hn]
    rw [e]
    have e2 := congrFun (View.read_write_univ (v := v.slice row0) (Val := Elt F) f a) (col i)
    have e3 : (v.slice row0).read (Elt F) ((v.slice row0).write (Elt F) f a Finset.univ) (col i)
        = v.read (Elt F) ((v.slice row0).write (Elt F) f a Finset.univ) (row0.emb (col i)) := rfl
    rw [e3, emb_col0 i h] at e2
    exact e2
  · rw [if_neg h]
    have e2 := congrFun (View.read_write_univ (v := v.slice row1) (Val := Elt F) ((v.slice row0).write (Elt F) f a Finset.univ) b) (col i)
    have e3 : (v.slice row1).read (Elt F) ((v.slice row1).write (Elt F) ((v.slice row0).write (Elt F) f a Finset.univ) b Finset.univ) (col i)
        = v.read (Elt F) ((v.slice row1).write (Elt F) ((v.slice row0).write (Elt F) f a Finset.univ) b Finset.univ) (row1.emb (col i)) := rfl
    rw [e3, emb_col1 i h] at e2
    exact e2

/-- Loading a row of a buffer that holds stacked rows. -/
theorem readAt_row0 (h : v.read (Elt F) f = stack a b) : v.readAt (Elt F) row0.toLoadRect f = a := by
  funext j
  show v.read (Elt F) f (row0.emb j) = a j
  rw [h]; unfold stack
  rw [if_pos (row0_emb j).2, (row0_emb j).1]
theorem readAt_row1 (h : v.read (Elt F) f = stack a b) : v.readAt (Elt F) row1.toLoadRect f = b := by
  funext j
  show v.read (Elt F) f (row1.emb j) = b j
  rw [h]; unfold stack
  rw [if_neg (by rw [(row1_emb j).2]; decide), (row1_emb j).1]

end Rows

/-! ## The accumulator -/

abbrev aM : Memref sig .tc .vmem S2x1024 .f32 := Memref.whole cc0_scratch0
abbrev oM : Memref sig .tc .vmem S2x1024 .f32 := Memref.whole cc0_stg1_0
abbrev gM : Memref sig .tc .vmem S4x2x1024 .f32 := Memref.whole cc0_scratch1

theorem acc_rows (f : S2x1024.Idx → Elt F .f32) (a b : S1x1024.Idx → Elt F .f32) :
    (aM.access row1 : View sig .tc _ _ _).write (Elt F) ((aM.access row0 : View sig .tc _ _ _).write (Elt F) f a Finset.univ) b Finset.univ = stack a b :=
  read_rows (View.whole cc0_scratch0) f a b
theorem out_rows (f : S2x1024.Idx → Elt F .f32) (a b : S1x1024.Idx → Elt F .f32) :
    (oM.access row1 : View sig .tc _ _ _).write (Elt F) ((oM.access row0 : View sig .tc _ _ _).write (Elt F) f a Finset.univ) b Finset.univ = stack a b :=
  read_rows (View.whole cc0_stg1_0) f a b
theorem acc_row0 (a b : S1x1024.Idx → Elt F .f32) : aM.view.readAt (Elt F) row0.toLoadRect (stack a b) = a :=
  readAt_row0 (View.whole cc0_scratch0) (stack a b) a b rfl
theorem acc_row1 (a b : S1x1024.Idx → Elt F .f32) : aM.view.readAt (Elt F) row1.toLoadRect (stack a b) = b :=
  readAt_row1 (View.whole cc0_scratch0) (stack a b) a b rfl
theorem acc_whole (f : S2x1024.Idx → Elt F .f32) :
    aM.view.readAt (Elt F) (Rect.unit (s := S2x1024) ![0, 0] S2x1024.size inb_S2x1024_S2x1024_0_0).toLoadRect f = f :=
  View.readAt_full (View.whole cc0_scratch0) f _

/-! ## The gather buffer -/

theorem slot_inb (q : Dev nD) : ∀ a, (k0_off2 q) a + S1x2x1024.size a ≤ S4x2x1024.size a := by revert q; decide +kernel

/-- The part of the gather buffer that device `q` fills. -/
abbrev slotM (q : Dev nD) : Memref sig .tc .vmem S1x2x1024 .f32 :=
  gM.slice (Rect.unit (s := S4x2x1024) (k0_off2 q) S1x2x1024.size (slot_inb q)) (fun _ => rfl)

abbrev N : ℕ := (slotM 0).view.dmaCredit
theorem N_pos : 0 < N := View.dmaCredit_pos _ (by decide)

/-- The index of row `r` and column `l` of an accumulator. -/
def rc (r : Fin 2) (l : Fin 1024) : S2x1024.Idx := fun | ⟨0, _⟩ => r | ⟨1, _⟩ => l

/-- The gather buffer holding every device's accumulator. -/
def gat (acc : Dev nD → S2x1024.Idx → Elt F .f32) : S4x2x1024.Idx → Elt F .f32 := fun i => acc (i 0 : Fin 4) (rc (i 1) (i 2))

theorem pay9_apply (x : Vec F S2x1024 .f32) (j : S1x2x1024.Idx) : k0_pay9 x j = x (rc (j 1) (j 2)) := by
  have h0 : (j 0).val < 1 := (j 0).isLt
  have h : ∀ (h : S2x1024.ShapeCasts S1x2x1024), shapeCast S1x2x1024 x h j = x (rc (j 1) (j 2)) := fun h =>
    shapeCast_apply x h j (rc (j 1) (j 2)) (by
      rw [Shape.rowMajor_val_two, Shape.rowMajor_val_three]
      show (j 1).val * 1024 + (j 2).val = ((j 0).val * 2 + (j 1).val) * 1024 + (j 2).val
      omega)
  have e : ∀ (h1 : S1x2x1024.ShapeCasts S1x2x1024) (h2 : S2x1024.ShapeCasts S1x2x1024),
      shapeCast S1x2x1024 (shapeCast S1x2x1024 x h2) h1 = shapeCast S1x2x1024 x h2 := fun h1 h2 => shapeCast_self _ _
  exact (congrFun (e _ _) j).trans (h _)

abbrev slotR (q : Dev nD) : Rect S4x2x1024 := Rect.unit (s := S4x2x1024) (k0_off2 q) S1x2x1024.size (slot_inb q)
theorem slotR_emb (q : Dev nD) (j : S1x2x1024.Idx) :
    ((slotR q).emb j 0).val = q.val ∧ ((slotR q).emb j 1).val = (j 1).val ∧ ((slotR q).emb j 2).val = (j 2).val := by
  have h0 : (j 0).val < 1 := (j 0).isLt
  have e := k0_off2_eq q
  refine ⟨?_, ?_, ?_⟩
  · show k0_off2 q 0 + 1 * (j 0).val = q.val; rw [e]; show q.val + 1 * (j 0).val = q.val; omega
  · show k0_off2 q 1 + 1 * (j 1).val = (j 1).val; rw [e]; show 0 + 1 * (j 1).val = (j 1).val; omega
  · show k0_off2 q 2 + 1 * (j 2).val = (j 2).val; rw [e]; show 0 + 1 * (j 2).val = (j 2).val; omega

theorem gat_emb (acc : Dev nD → S2x1024.Idx → Elt F .f32) (q : Dev nD) (j : S1x2x1024.Idx) :
    gat acc ((slotR q).emb j) = acc q (rc (j 1) (j 2)) := by
  obtain ⟨e0, e1, e2⟩ := slotR_emb q j
  have h0 : ((slotR q).emb j 0 : Fin 4) = q := Fin.ext e0
  have h1 : ((slotR q).emb j 1 : Fin 2) = j 1 := Fin.ext e1
  have h2 : ((slotR q).emb j 2 : Fin 1024) = j 2 := Fin.ext e2
  show acc ((slotR q).emb j 0 : Fin 4) (rc ((slotR q).emb j 1) ((slotR q).emb j 2)) = _
  rw [h0, h1, h2]

theorem slot_set (q : Dev nD) : (slotM q).view.set = (slotR q).set := View.set_slice_whole cc0_scratch1 (slotR q)

/-- Storing device `q`'s accumulator in its own slot makes the slot what the full gather buffer has there. -/
theorem store_slot (acc : Dev nD → S2x1024.Idx → Elt F .f32) (q : Dev nD) (f : S4x2x1024.Idx → Elt F .f32) {w : S1x2x1024.Idx → Elt F .f32}
    (hw : ∀ j, w j = acc q (rc (j 1) (j 2))) : ∀ i ∈ (slotM q).view.set, (slotM q).view.write (Elt F) f w Finset.univ i = gat acc i := by
  intro i hi
  obtain ⟨j, -, rfl⟩ := Finset.mem_map.mp hi
  rw [View.write_emb_of_mem _ _ (Finset.mem_univ j)]
  exact (hw j).trans (gat_emb acc q j).symm

/-- A copy of slot `q` of the full gather buffer leaves the same there. -/
theorem copy_slot (g : S4x2x1024.Idx → Elt F .f32) (q : Dev nD) (f : S4x2x1024.Idx → Elt F .f32) :
    ∀ i ∈ (slotM q).view.set, (slotM q).view.write (Elt F) f ((slotM q).view.read (Elt F) g) Finset.univ i = g i := by
  intro i hi
  obtain ⟨j, -, rfl⟩ := Finset.mem_map.mp hi
  rw [View.write_emb_of_mem _ _ (Finset.mem_univ j)]
  rfl

/-- Row `r` of every device's accumulator. -/
def rows (acc : Dev nD → S2x1024.Idx → Elt F .f32) (r : Fin 2) : S4x1x1024.Idx → Elt F .f32 := fun j => acc (j 0 : Fin 4) (rc r (j 2))

theorem gat_rows0 (acc : Dev nD → S2x1024.Idx → Elt F .f32) :
    gM.view.readAt (Elt F) (Rect.unit (s := S4x2x1024) ![0, 0, 0] S4x1x1024.size inb_S4x2x1024_S4x1x1024_0_0_0).toLoadRect (gat acc) = rows acc 0 := by
  funext j
  have h1 : (j 1).val < 1 := (j 1).isLt
  have e0 : (⟨0 + 1 * (j 0).val, by have : (j 0).val < 4 := (j 0).isLt; omega⟩ : Fin 4) = j 0 := Fin.ext (by show 0 + 1 * (j 0).val = (j 0).val; omega)
  have e1 : (⟨0 + 1 * (j 1).val, by omega⟩ : Fin 2) = 0 := Fin.ext (by show 0 + 1 * (j 1).val = 0; omega)
  have e2 : (⟨0 + 1 * (j 2).val, by have : (j 2).val < 1024 := (j 2).isLt; omega⟩ : Fin 1024) = j 2 := Fin.ext (by show 0 + 1 * (j 2).val = (j 2).val; omega)
  show acc (⟨0 + 1 * (j 0).val, _⟩ : Fin 4) (rc (⟨0 + 1 * (j 1).val, _⟩ : Fin 2) (⟨0 + 1 * (j 2).val, _⟩ : Fin 1024)) = _
  rw [e0, e1, e2]; rfl
theorem gat_rows1 (acc : Dev nD → S2x1024.Idx → Elt F .f32) :
    gM.view.readAt (Elt F) (Rect.unit (s := S4x2x1024) ![0, 1, 0] S4x1x1024.size inb_S4x2x1024_S4x1x1024_0_1_0).toLoadRect (gat acc) = rows acc 1 := by
  funext j
  have h1 : (j 1).val < 1 := (j 1).isLt
  have e0 : (⟨0 + 1 * (j 0).val, by have : (j 0).val < 4 := (j 0).isLt; omega⟩ : Fin 4) = j 0 := Fin.ext (by show 0 + 1 * (j 0).val = (j 0).val; omega)
  have e1 : (⟨1 + 1 * (j 1).val, by omega⟩ : Fin 2) = 1 := Fin.ext (by show 1 + 1 * (j 1).val = 1; omega)
  have e2 : (⟨0 + 1 * (j 2).val, by have : (j 2).val < 1024 := (j 2).isLt; omega⟩ : Fin 1024) = j 2 := Fin.ext (by show 0 + 1 * (j 2).val = (j 2).val; omega)
  show acc (⟨0 + 1 * (j 0).val, _⟩ : Fin 4) (rc (⟨1 + 1 * (j 1).val, _⟩ : Fin 2) (⟨0 + 1 * (j 2).val, _⟩ : Fin 1024)) = _
  rw [e0, e1, e2]; rfl

/-! ## The run's values -/

variable (m : (ℓ : Loc nD τ sig) → Buf (Elt F) ℓ)

/-- Grid point `n`, counted round. -/
def pt (n : ℕ) : Fin grid0.N := ⟨n % 8, by rw [N_0]; exact Nat.mod_lt _ (by decide)⟩

/-- The block of rows device `c` reads at grid point `t`. -/
def xblk (c : Dev nD) (t : Fin grid0.N) : S1024x1024.Idx → Elt F .f32 := (win0_0.blk t).view.read (Elt F) (m ((c : Thread nD τ).loc main_arg0))

/-- Device `c`'s two rows after grid point `n`. -/
def accV (c : Dev nD) : ℕ → (S1x1024.Idx → Elt F .f32) × (S1x1024.Idx → Elt F .f32)
  | 0 => (k0_pay4 (xblk m c (pt 0)), k0_pay5 (grid0.coords (pt 0)) c (xblk m c (pt 0)))
  | n + 1 => (k0_pay7 (xblk m c (pt (n + 1))) (accV c n).1,
      k0_pay8 (grid0.coords (pt (n + 1))) c (xblk m c (pt (n + 1))) (accV c n).1 (accV c n).2)

/-- Device `c`'s accumulator after grid point `n`. -/
def accS (n : ℕ) (c : Dev nD) : S2x1024.Idx → Elt F .f32 := stack (accV m c n).1 (accV m c n).2

/-- The gather buffer once every device's last accumulator has arrived. -/
def gAll : S4x2x1024.Idx → Elt F .f32 := gat (accS m 7)

/-- The result, the same on every device. -/
def outC : S2x1024.Idx → Elt F .f32 := stack (k0_pay11 (rows (accS m 7) 0)) (k0_pay12 (rows (accS m 7) 0) (rows (accS m 7) 1))

end Cert.KernelIdeal.Max
-- ==== Proof.KernelIdeal.Proto.lean ====
/- The exchange at the last grid point.  Every device tells the three others that its gather buffer may be
   written (one unit on each one's barrier semaphore, which hands over that device's slot), waits for their
   three units, and copies its own slot to them; each copy has a semaphore of its own at both ends. -/
module

public import proofs.«01_k».proof.Proof.KernelIdeal.Values

@[expose] public section

set_option maxRecDepth 16384

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The semaphores -/

abbrev barS : Sem sig := (SemArray.scalar (sig.barrier 0 rfl) : Sems sig S_).sem
/-- The semaphore device `c`'s copy to `hop k c` counts on at `c`. -/
abbrev sendS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
/-- The semaphore the copy from `back k c` counts on at `c`. -/
abbrev recvS : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The kernel's own semaphores; -/
abbrev osem : Fin 6 → SemLoc sig := fun
  | 0 => .dma (sendS 0) | 1 => .dma (sendS 1) | 2 => .dma (sendS 2) | 3 => .dma (recvS 0) | 4 => .dma (recvS 1) | 5 => .dma (recvS 2)
/-- with the barrier semaphore, all seven of the exchange. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-- Which of the seven a semaphore is. -/
def which (s : SemLoc sig) : Option (Fin 7) := (List.finRange 7).find? fun k => decide (csem k = s)
theorem which_csem (k : Fin 7) : which (csem k) = some k := by revert k; decide

theorem csem_injective : Function.Injective csem := fun a b h => by
  have := congrArg which h; rw [which_csem, which_csem] at this; exact Option.some.inj this

/-! ## The slots -/

/-- Slot `q` of device `d`'s gather buffer, a share of it, holding `f`. -/
def slotPts (d q : Dev nD) (s : PosShare TreeShare) (f : S4x2x1024.Idx → Elt F .f32) : sProp 𝕄 :=
  (slotM q).view.loc (d : Thread nD τ) ↦[(slotM q).view.set]{s} (f : Buf (Elt F) ((slotM q).view.loc (d : Thread nD τ)))

instance slotPts_storable (d q : Dev nD) (s) (f) : BI.Storable (upEmb : UEmb _ 𝕄) (slotPts (F := F) d q s f) := by unfold slotPts; infer_instance

theorem slot_congr (d q : Dev nD) (s : PosShare TreeShare) {f g : S4x2x1024.Idx → Elt F .f32} (h : ∀ i ∈ (slotM q).view.set, f i = g i) :
    (slotPts d q s f : sProp 𝕄) = slotPts d q s g := pointsTo_congr h

theorem slot_disjoint (b b' : Dev nD) (h : b ≠ b') : Disjoint (slotR b).set (slotR b').set :=
  Ring.lead_disjoint (s := S4x2x1024) (NB := 4) (0 : Fin 3) 1 (fun q => k0_off2 q) S1x2x1024.size slot_inb
    (fun b => by show k0_off2 b 0 = _; rw [k0_off2_eq]; show b.val = 1 * b.val; omega) rfl b b' h
theorem slot_cover : Finset.univ.biUnion (fun q : Dev nD => (slotR q).set) = Finset.univ :=
  Ring.lead_cover (s := S4x2x1024) (NB := 4) (0 : Fin 3) 1 (fun q => k0_off2 q) S1x2x1024.size slot_inb
    (fun b => by show k0_off2 b 0 = _; rw [k0_off2_eq]; show b.val = 1 * b.val; omega)
    (fun b a ha => by
      show k0_off2 b a = 0
      rw [k0_off2_eq]; fin_cases a
      · exact absurd rfl ha
      · rfl
      · rfl)
    rfl (fun a ha => by fin_cases a <;> first | exact absurd rfl ha | rfl) rfl

theorem ring_nodup (c : Dev nD) : [c, hop 0 c, hop 1 c, hop 2 c].Nodup := by revert c; decide
theorem ring_univ (c : Dev nD) : Finset.univ = [c, hop 0 c, hop 1 c, hop 2 c].toFinset := by revert c; decide

theorem bigSep_ring (c : Dev nD) (Φ : Dev nD → sProp 𝕄) :
    bigSep Finset.univ Φ = iprop(Φ c ∗ Φ (hop 0 c) ∗ Φ (hop 1 c) ∗ Φ (hop 2 c)) :=
  bigSep_univ_eq_bigSepL [c, hop 0 c, hop 1 c, hop 2 c] (ring_univ c) (ring_nodup c) Φ

/-- The gather buffer is its four slots. -/
theorem gather_slots (d c : Dev nD) (f : S4x2x1024.Idx → Elt F .f32) :
    (((d : Thread nD τ).loc cc0_scratch1) ↦{fullShare} (f : Buf (Elt F) ((d : Thread nD τ).loc cc0_scratch1)) : sProp 𝕄)
      = iprop(slotPts d c fullShare f ∗ slotPts d (hop 0 c) fullShare f ∗ slotPts d (hop 1 c) fullShare f ∗ slotPts d (hop 2 c) fullShare f) := by
  rw [← bigSep_ring c fun q => slotPts d q fullShare f]
  rw [Ring.pointsTo_blocks (ℓ := (d : Thread nD τ).loc cc0_scratch1) (fun q : Dev nD => (slotR q).set) slot_disjoint slot_cover]
  exact bigSep_congr fun q _ => by unfold slotPts; rw [slot_set]

/-- The three parts a device's own slot is lent in. -/
def shr : Fin 3 → PosShare TreeShare
  | 0 => fullShare.left | 1 => fullShare.right.left | 2 => fullShare.right.right

theorem slot_shares (d q : Dev nD) (f : S4x2x1024.Idx → Elt F .f32) :
    (slotPts d q fullShare f : sProp 𝕄) ⊣⊢ iprop(slotPts d q (shr 0) f ∗ slotPts d q (shr 1) f ∗ slotPts d q (shr 2) f) := by
  unfold slotPts shr
  refine ⟨?_, ?_⟩
  · iintro H
    ihave H := (pointsTo_share (PosShare.mem_left_op_right fullShare)).1 $$ H
    icases H with ⟨H0, H⟩
    ihave H := (pointsTo_share (PosShare.mem_left_op_right fullShare.right)).1 $$ H
    icases H with ⟨H1, H2⟩
    isplitl [H0]; · iexact H0
    isplitl [H1] <;> iassumption
  · iintro ⟨H0, H1, H2⟩
    iapply (pointsTo_share (PosShare.mem_left_op_right fullShare)).2
    isplitl [H0]; · iexact H0
    iapply (pointsTo_share (PosShare.mem_left_op_right fullShare.right)).2
    isplitl [H1] <;> iassumption

/-! ## The schedule -/

/-- What the unit from `back k c` hands `c`: the slot of `c` in that device's gather buffer. -/
def barPay (c : Dev nD) (k : Fin 3) : sProp 𝕄 := iprop(∃ f, slotPts (back k c) c fullShare f)
/-- What the copy to `hop k c` hands back: the share it was lent. -/
def sendPay (k : Fin 3) (c : Dev nD) : sProp 𝕄 := slotPts c c (shr k) (gAll m)
/-- What the copy from `back k c` hands over: that device's slot, filled. -/
def recvPay (k : Fin 3) (c : Dev nD) : sProp 𝕄 := slotPts c (back k c) fullShare (gAll m)

def pay (c : Dev nD) (j : Fin 7) (d : Fin 3) : sProp 𝕄 := match j with
  | 0 => barPay c d | 1 => sendPay m 0 c | 2 => sendPay m 1 c | 3 => sendPay m 2 c
  | 4 => recvPay m 0 c | 5 => recvPay m 1 c | 6 => recvPay m 2 c

def dut (j : Fin 7) : Finset (Fin 3) := if j = 0 then Finset.univ else {0}
def amt (j : Fin 7) : ℕ := if j = 0 then 1 else N

def ringRd : Rounds.Schedule (GSem nD τ sig) (Fin 3) 𝕄 where
  duties g r := if r = 0 ∧ g.1.2 = .tc then (match which g.2 with | some j => dut j | none => ∅) else ∅
  unitless _ := False
  amount g _ _ := match which g.2 with | some j => amt j | none => 1
  payload g _ d := match which g.2 with | some j => pay m g.1.1 j d | none => iprop(emp)
  amount_pos g _ _ _ := by
    cases which g.2 with
    | none => exact Nat.one_pos
    | some j => show 0 < amt j; unfold amt; split; exacts [Nat.one_pos, N_pos]

instance pay_storable (c : Dev nD) (j : Fin 7) (d : Fin 3) : BI.Storable (upEmb : UEmb _ 𝕄) (pay (F := F) m c j d) := by
  unfold pay barPay sendPay recvPay
  fin_cases j <;> infer_instance

instance ringRd_payload_storable (g : GSem nD τ sig) (r : ℕ) (d : Fin 3) : BI.Storable (upEmb : UEmb _ 𝕄) ((ringRd (F := F) m).payload g r d) := by
  show BI.Storable upEmb (match which g.2 with | some j => pay m g.1.1 j d | none => iprop(emp))
  cases which g.2 <;> infer_instance

section Sched

theorem duties_k (c : Dev nD) (j : Fin 7) : (ringRd (F := F) m).duties (kcell (c, j)) 0 = dut j := by
  dsimp only [ringRd]; rw [if_pos ⟨rfl, rfl⟩, which_csem]
theorem duties_later (g : GSem nD τ sig) : ∀ r, 1 ≤ r → (ringRd (F := F) m).duties g r = ∅ :=
  fun r hr => by dsimp only [ringRd]; exact if_neg fun h => by omega
theorem amount_k (c : Dev nD) (j : Fin 7) (d : Fin 3) : (ringRd (F := F) m).amount (kcell (c, j)) 0 d = amt j := by
  dsimp only [ringRd]; rw [which_csem]
theorem payload_k (c : Dev nD) (j : Fin 7) (d : Fin 3) : (ringRd (F := F) m).payload (kcell (c, j)) 0 d = pay m c j d := by
  dsimp only [ringRd]; rw [which_csem]

variable (c : Dev nD) (k : Fin 3)

theorem duties_bar : (ringRd (F := F) m).duties (barCell c) 0 = Finset.univ := duties_k m c 0
theorem duties_send : (ringRd (F := F) m).duties (sendCell k c) 0 = {0} := by fin_cases k; exacts [duties_k m c 1, duties_k m c 2, duties_k m c 3]
theorem duties_recv : (ringRd (F := F) m).duties (recvCell k c) 0 = {0} := by fin_cases k; exacts [duties_k m c 4, duties_k m c 5, duties_k m c 6]
theorem amount_bar (d : Fin 3) : (ringRd (F := F) m).amount (barCell c) 0 d = 1 := amount_k m c 0 d
theorem amount_send (d : Fin 3) : (ringRd (F := F) m).amount (sendCell k c) 0 d = N := by
  fin_cases k; exacts [amount_k m c 1 d, amount_k m c 2 d, amount_k m c 3 d]
theorem amount_recv (d : Fin 3) : (ringRd (F := F) m).amount (recvCell k c) 0 d = N := by
  fin_cases k; exacts [amount_k m c 4 d, amount_k m c 5 d, amount_k m c 6 d]
theorem payload_bar (d : Fin 3) : (ringRd (F := F) m).payload (barCell c) 0 d = barPay c d := payload_k m c 0 d
theorem payload_send (d : Fin 3) : (ringRd (F := F) m).payload (sendCell k c) 0 d = sendPay m k c := by
  fin_cases k; exacts [payload_k m c 1 d, payload_k m c 2 d, payload_k m c 3 d]
theorem payload_recv (d : Fin 3) : (ringRd (F := F) m).payload (recvCell k c) 0 d = recvPay m k c := by
  fin_cases k; exacts [payload_k m c 4 d, payload_k m c 5 d, payload_k m c 6 d]

theorem expect_bar : (ringRd (F := F) m).expect (barCell c) 0 = 3 := by
  unfold Schedule.expect Schedule.amountOf
  rw [duties_bar, Finset.sum_congr rfl fun d _ => amount_bar m c d]; decide
theorem expect_send : (ringRd (F := F) m).expect (sendCell k c) 0 = N := by
  unfold Schedule.expect Schedule.amountOf; rw [duties_send, Finset.sum_singleton, amount_send]
theorem expect_recv : (ringRd (F := F) m).expect (recvCell k c) 0 = N := by
  unfold Schedule.expect Schedule.amountOf; rw [duties_recv, Finset.sum_singleton, amount_recv]

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, bigSep_fin3, payload_bar, payload_bar, payload_bar]
theorem rest_send : bigSep ((ringRd (F := F) m).duties (sendCell k c) 0 \ ∅) (fun d => (ringRd (F := F) m).payload (sendCell k c) 0 d) = sendPay m k c := by
  rw [Finset.sdiff_empty, duties_send, bigSep_singleton, payload_send]
theorem rest_recv : bigSep ((ringRd (F := F) m).duties (recvCell k c) 0 \ ∅) (fun d => (ringRd (F := F) m).payload (recvCell k c) 0 d) = recvPay m k c := by
  rw [Finset.sdiff_empty, duties_recv, bigSep_singleton, payload_recv]

end Sched

/-! ## What each device owes at launch; the levels -/

/-- The copies to the three other devices; -/
def O₃ (c : Dev nD) : CellTallies nD τ sig Unit :=
  0 + tallyAt (recvCell 2 (hop 2 c)) () N + tallyAt (recvCell 1 (hop 1 c)) () N + tallyAt (recvCell 0 (hop 0 c)) () N
/-- and the three units before them. -/
def O₀ (c : Dev nD) : CellTallies nD τ sig Unit :=
  O₃ c + tallyAt (barCell (hop 2 c)) () 1 + tallyAt (barCell (hop 1 c)) () 1 + tallyAt (barCell (hop 0 c)) () 1

def L (g : GSem nD τ sig) : Finset Unit := if g.1.2 = .tc then {()} else ∅
def lvk (j : Fin 7) : ℕ := if j = 0 then 1 else if j.val ≤ 3 then 0 else 2
def lv (g : GSem nD τ sig) (_ : Unit) : ℕ := match which g.2 with | some j => lvk j | none => 0
theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (j : Fin 7) (u : Unit) : lv (kcell (c, j)) u = lvk j := by unfold lv; rw [which_csem]
theorem lv_bar (c : Dev nD) (u : Unit) : lv (barCell c) u = 1 := lv_k c 0 u
theorem lv_recv (k : Fin 3) (c : Dev nD) (u : Unit) : lv (recvCell k c) u = 2 := by fin_cases k; exacts [lv_k c 4 u, lv_k c 5 u, lv_k c 6 u]

theorem tally_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem O₃_pos {c : Dev nD} {g : GSem nD τ sig} {u : Unit} (h : 0 < O₃ c g u) : ∃ k d, g = recvCell k d := by
  unfold O₃ at h
  simp only [Pi.add_apply, Finsupp.add_apply, Pi.zero_apply, Finsupp.zero_apply, Nat.zero_add] at h
  rcases Nat.pos_of_ne_zero (Nat.pos_iff_ne_zero.mp h) |> fun h => (by omega :
    0 < tallyAt (recvCell 2 (hop 2 c)) () N g u ∨ 0 < tallyAt (recvCell 1 (hop 1 c)) () N g u ∨ 0 < tallyAt (recvCell 0 (hop 0 c)) () N g u) with h | h | h
  exacts [⟨2, _, tally_pos h⟩, ⟨1, _, tally_pos h⟩, ⟨0, _, tally_pos h⟩]

theorem O₀_pos {c : Dev nD} {g : GSem nD τ sig} {u : Unit} (h : 0 < O₀ c g u) : (∃ k d, g = recvCell k d) ∨ ∃ d, g = barCell d := by
  unfold O₀ at h
  simp only [Pi.add_apply, Finsupp.add_apply] at h
  rcases (by omega : 0 < O₃ c g u ∨ 0 < tallyAt (barCell (hop 2 c)) () 1 g u ∨ 0 < tallyAt (barCell (hop 1 c)) () 1 g u
    ∨ 0 < tallyAt (barCell (hop 0 c)) () 1 g u) with h | h | h | h
  exacts [.inl (O₃_pos h), .inr ⟨_, tally_pos h⟩, .inr ⟨_, tally_pos h⟩, .inr ⟨_, tally_pos h⟩]

theorem mayWait_stage (c : Dev nD) (q : DmaSem sig) (hq : which (SemLoc.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, d, rfl⟩ | ⟨d, rfl⟩ <;> exact Finset.mem_singleton_self _)
      (fun p hp => by rw [Finset.mem_singleton.mp hp]; unfold lv; rw [hq])
      (fun g u hg => by
        rcases O₀_pos hg with ⟨k, d, rfl⟩ | ⟨d, rfl⟩
        · rw [lv_recv]; decide
        · rw [lv_bar]; decide)
  · rw [MayWait_zero]; iintro -; iempintro

theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨k, d, rfl⟩ := O₃_pos hg; exact Finset.mem_singleton_self _)
    (fun p hp => by rw [Finset.mem_singleton.mp hp]; exact (lv_bar c _).le)
    (fun g u hg => by obtain ⟨k, d, rfl⟩ := O₃_pos hg; rw [lv_recv]; decide)

/-! ## What a device starts with -/

def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)
instance records_persistent (K : Dev nD × Fin 7 → ℕ) : BI.Persistent (records (F := F) m K) := by unfold records; infer_instance

theorem inv_at (K : Dev nD × Fin 7 → ℕ) (ck : Dev nD × Fin 7) : (records m K : sProp 𝕄) ⊢ cellInv ER (ringRd m) (K ck) (kcell ck) := by
  unfold records; iintro ⟨H, -⟩; iapply (show (bigSep Finset.univ fun ck : Dev nD × Fin 7 => (cellInv ER (ringRd m) (K ck) (kcell ck) : sProp 𝕄)) ⊢ cellInv ER (ringRd m) (K ck) (kcell ck) from bigSep_elim (Finset.mem_univ ck)); iexact H
theorem reached_at (K : Dev nD × Fin 7 → ℕ) (ck : Dev nD × Fin 7) : (records m K : sProp 𝕄) ⊢ reached ER (kcell ck) 0 := by
  unfold records; iintro ⟨-, H⟩; iapply (show (bigSep Finset.univ fun ck : Dev nD × Fin 7 => (reached ER (kcell ck) 0 : sProp 𝕄)) ⊢ reached ER (kcell ck) 0 from bigSep_elim (Finset.mem_univ ck)); iexact H

/-- The tokens of the duties device `c` pays. -/
def payToks (c : Dev nD) : sProp 𝕄 :=
  iprop((dutyTok ER (barCell (hop 0 c)) 0 (0 : Fin 3) ∗ dutyTok ER (barCell (hop 1 c)) 0 (1 : Fin 3) ∗ dutyTok ER (barCell (hop 2 c)) 0 (2 : Fin 3))
    ∗ (dutyTok ER (sendCell 0 c) 0 (0 : Fin 3) ∗ dutyTok ER (sendCell 1 c) 0 (0 : Fin 3) ∗ dutyTok ER (sendCell 2 c) 0 (0 : Fin 3))
    ∗ (dutyTok ER (recvCell 0 (hop 0 c)) 0 (0 : Fin 3) ∗ dutyTok ER (recvCell 1 (hop 1 c)) 0 (0 : Fin 3) ∗ dutyTok ER (recvCell 2 (hop 2 c)) 0 (0 : Fin 3)))
/-- Its own seven semaphores, at the start. -/
def poss (c : Dev nD) : sProp 𝕄 :=
  iprop(atPos ER (barCell c) 0 ∅ 0 ∗ (atPos ER (sendCell 0 c) 0 ∅ 0 ∗ atPos ER (sendCell 1 c) 0 ∅ 0 ∗ atPos ER (sendCell 2 c) 0 ∅ 0)
    ∗ (atPos ER (recvCell 0 c) 0 ∅ 0 ∗ atPos ER (recvCell 1 c) 0 ∅ 0 ∗ atPos ER (recvCell 2 c) 0 ∅ 0))
def linear (c : Dev nD) : sProp 𝕄 := iprop(poss c ∗ payToks c)
def ghost (K : Dev nD × Fin 7 → ℕ) (c : Dev nD) : sProp 𝕄 := iprop(records m K ∗ linear c)
def creds3 (c : Dev nD) : sProp 𝕄 :=
  iprop(cred (tallyAt (barCell c) () 3) ∗ cred (tallyAt (recvCell 0 c) () N) ∗ cred (tallyAt (recvCell 1 c) () N) ∗ cred (tallyAt (recvCell 2 c) () N))
def start (c : Dev nD) : sProp 𝕄 := iprop((∃ K, ghost m K c) ∗ creds3 c ∗ levAts L lv)
/-- All seven back at zero. -/
def zeros (c : Dev nD) : sProp 𝕄 :=
  iprop(semVal (barCell c) 0 ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

/-! ## The state between grid points -/

def accPts (c : Dev nD) (f : S2x1024.Idx → Elt F .f32) : sProp 𝕄 :=
  ((c : Thread nD τ).loc cc0_scratch0) ↦{fullShare} (f : Buf (Elt F) ((c : Thread nD τ).loc cc0_scratch0))
def gPts (c : Dev nD) (f : S4x2x1024.Idx → Elt F .f32) : sProp 𝕄 :=
  ((c : Thread nD τ).loc cc0_scratch1) ↦{fullShare} (f : Buf (Elt F) ((c : Thread nD τ).loc cc0_scratch1))

def Phi (c : Dev nD) (n : ℕ) : sProp 𝕄 :=
  if n = 0 then iprop(start m c ∗ (∃ f, accPts c f) ∗ ∃ f, gPts c f)
  else if n < 8 then iprop(start m c ∗ accPts c (accS m (n - 1) c) ∗ ∃ f, gPts c f)
  else iprop(zeros c ∗ (∃ f, accPts c f) ∗ ∃ f, gPts c f)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => outC m
  Φ t := Phi m c t.val
  q _ := fullShare
  owed t := if t.val < 8 then O₀ c else 0

abbrev 𝒱₀ : Variants := Variants.none

end Cert.KernelIdeal.Max
-- ==== Proof.KernelIdeal.Body.lean ====
/- The kernel's body at one grid point: the two accumulator rows are set from the first block and joined with
   each later one. -/
module

public import proofs.«01_k».proof.Proof.KernelIdeal.Proto

@[expose] public section

set_option maxRecDepth 16384

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The conditions on the grid point -/

theorem cond1_iff (i : grid0.Coords) :
    Scalar.cmpi .ne (Scalar.extui (Scalar.cmpi .eq (BitVec.ofNat 32 (i 0).val) 0#32) : BitVec 32) 0#32 = 1#1 ↔ (i 0).val = 0 := by
  revert i; decide +kernel
theorem cond2_iff (i : grid0.Coords) :
    Scalar.cmpi .ne (Scalar.extui (Scalar.cmpi .sgt (BitVec.ofNat 32 (i 0).val) 0#32) : BitVec 32) 0#32 = 1#1 ↔ (i 0).val ≠ 0 := by
  revert i; decide +kernel
theorem cond3_iff (i : grid0.Coords) : k0_cond3 i = 1#1 ↔ (i 0).val = 7 := by
  revert i; decide +kernel

/-- A block's buffer, holding `X`. -/
abbrev own1 (c : Dev nD) (M : Memref sig .tc .vmem S1024x1024 .f32) (X : S1024x1024.Idx → Elt F .f32) : sProp 𝕄 :=
  owns (c : Thread nD τ) M fullShare X

section Body

variable (c : Dev nD) (i : grid0.Coords) (M : Memref sig .tc .vmem S1024x1024 .f32) (hM : M.IsWhole) (M' : Memref sig .tc .vmem S2x1024 .f32)
  (hM' : M'.IsWhole) (X : S1024x1024.Idx → Elt F .f32)

/-- The kernel's body on these buffers. -/
abbrev kbody : Prog (TpuEff nD τ sig (Elt F) Λ₀ .tc) PUnit :=
  cc0_body i M hM M' hM' aM (Memref.isWhole_whole _) gM (Memref.isWhole_whole _) cc0_scratch2 cc0_scratch3

/-- At the first grid point. -/
theorem sound_first (hi : (i 0).val = 0) (Kt : PUnit → sProp 𝕄) :
    iprop((own1 c M X ∗ ∃ f, accPts c f) ∗ ((own1 c M X ∗ accPts c (stack (k0_pay4 X) (k0_pay5 i c X))) -∗ Kt ⟨⟩))
      ⊢ wp frame (wpE (defs₀ (F := F)) 𝒱₀ c none) Set.univ (kbody (F := F) i M hM M' hM') Kt := by
  unfold kbody
  rw [cc0_body_eq_skeleton]; unfold cc0_body_skel
  dsimp only
  have h1 := (cond1_iff i).mpr hi
  have h2 := fun h => (cond2_iff i).mp h hi
  have h3 : ¬k0_cond3 i = 1#1 := fun h => by have := (cond3_iff i).mp h; omega
  simp only [dif_pos h1, dif_neg h2, dif_neg h3]
  simp only [Prog.lift, Prog.bind_op, Prog.bind_ret, Prog.pure_eq_ret, wp_deviceId]
  unfold own1 owns accPts
  iintro ⟨⟨⟨%g, %hg, HX⟩, ⟨%f, Ha⟩⟩, Hk⟩
  iapply (wp_load 𝒱₀ (c : Thread nD τ) none Set.univ (m := M) (View.setOn_subset_set _ _)) $$ HX; iintro HX
  iapply (wp_load 𝒱₀ (c : Thread nD τ) none Set.univ (m := aM) (Finset.subset_univ _)) $$ Ha; iintro Ha
  iapply (wp_store 𝒱₀ (c : Thread nD τ) none Set.univ (m := aM) (r := row0) (Mk := Finset.univ) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := row1) (Mk := Finset.univ) (Finset.subset_univ _)) $$ Ha; iintro Ha
  rw [View.readAt_full, hg, acc_rows, wp_ret]; imodintro
  iapply Hk
  isplitl [HX]
  · iexists g; isplitr; · (ipureintro; exact hg)
    iexact HX
  iexact Ha

/-- At a grid point between the first and the last. -/
theorem sound_mid (hi : (i 0).val ≠ 0) (hi' : (i 0).val ≠ 7) (a b : S1x1024.Idx → Elt F .f32) (Kt : PUnit → sProp 𝕄) :
    iprop((own1 c M X ∗ accPts c (stack a b)) ∗ ((own1 c M X ∗ accPts c (stack (k0_pay7 X a) (k0_pay8 i c X a b))) -∗ Kt ⟨⟩))
      ⊢ wp frame (wpE (defs₀ (F := F)) 𝒱₀ c none) Set.univ (kbody (F := F) i M hM M' hM') Kt := by
  unfold kbody
  rw [cc0_body_eq_skeleton]; unfold cc0_body_skel
  dsimp only
  have h1 := fun h => hi ((cond1_iff i).mp h)
  have h2 := (cond2_iff i).mpr hi
  have h3 : ¬k0_cond3 i = 1#1 := fun h => hi' ((cond3_iff i).mp h)
  simp only [dif_neg h1, dif_pos h2, dif_neg h3]
  simp only [Prog.lift, Prog.bind_op, Prog.bind_ret, Prog.pure_eq_ret, wp_deviceId]
  unfold own1 owns accPts
  iintro ⟨⟨⟨%g, %hg, HX⟩, Ha⟩, Hk⟩
  iapply (wp_load 𝒱₀ (c : Thread nD τ) none Set.univ (m := M) (View.setOn_subset_set _ _)) $$ HX; iintro HX
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := row0) (Mk := Finset.univ) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := row1) (Mk := Finset.univ) (Finset.subset_univ _)) $$ Ha; iintro Ha
  rw [View.readAt_full, hg, acc_row0, acc_row1, acc_rows, wp_ret]; imodintro
  iapply Hk
  isplitl [HX]
  · iexists g; isplitr; · (ipureintro; exact hg)
    iexact HX
  iexact Ha

end Body

end Cert.KernelIdeal.Max
-- ==== Proof.KernelIdeal.Last.lean ====
/- The kernel's body at the last grid point: the accumulators are exchanged and the result is stored. -/
module

public import proofs.«01_k».proof.Proof.KernelIdeal.Body

@[expose] public section

set_option maxRecDepth 16384

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operations of the exchange -/

def sj (k : Fin 3) : Fin 7 := ⟨k.val + 1, by omega⟩
def rj (k : Fin 3) : Fin 7 := ⟨k.val + 4, by omega⟩
theorem kcell_sj (k : Fin 3) (c : Dev nD) : kcell (c, sj k) = sendCell k c := by fin_cases k <;> rfl
theorem kcell_rj (k : Fin 3) (c : Dev nD) : kcell (c, rj k) = recvCell k c := by fin_cases k <;> rfl

section Ops

variable (K : Dev nD × Fin 7 → ℕ) (k : Fin 3) (c : Dev nD)

theorem inv_bar : (records m K : sProp 𝕄) ⊢ cellInv ER (ringRd m) (K (c, 0)) (barCell c) := inv_at m K (c, 0)
theorem inv_send : (records m K : sProp 𝕄) ⊢ cellInv ER (ringRd m) (K (c, sj k)) (sendCell k c) := by
  rw [← kcell_sj]; exact inv_at m K (c, sj k)
theorem inv_recv : (records m K : sProp 𝕄) ⊢ cellInv ER (ringRd m) (K (c, rj k)) (recvCell k c) := by
  rw [← kcell_rj]; exact inv_at m K (c, rj k)
theorem reached_bar : (records m K : sProp 𝕄) ⊢ reached ER (barCell c) 0 := reached_at m K (c, 0)
theorem reached_send : (records m K : sProp 𝕄) ⊢ reached ER (sendCell k c) 0 := by rw [← kcell_sj]; exact reached_at m K (c, sj k)
theorem reached_recv : (records m K : sProp 𝕄) ⊢ reached ER (recvCell k c) 0 := by rw [← kcell_rj]; exact reached_at m K (c, rj k)

/-- The unit to `hop k c`, which hands over that device's slot of `c`'s gather buffer. -/
theorem wp_sig (n : Dev nD) (hn : n = hop k c) {k' : ℕ} (hk' : k' = 1) (f : S4x2x1024.Idx → Elt F .f32) (O : CellTallies nD τ sig Unit) (W : Waits sig Unit)
    {α : Type} {Q : α → sProp 𝕄} {kk : PUnit → Prog (TpuEff nD τ sig (Elt F) Λ₀ .tc) α} :
    iprop(records m K ∗ owes (c : Thread nD τ) (O + tallyAt (barCell (hop k c)) () 1) W ∗ dutyTok ER (barCell (hop k c)) 0 k ∗ slotPts c (hop k c) fullShare f)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS k') kk) Q) := by
  subst hn hk'
  iintro ⟨#HR, HO, Ht, Hs⟩
  iapply (Rounds.wp_signal 𝒱₀ ER (ringRd m) (c : Thread nD τ) none (dst := (hop k c : Thread nD τ)) (κ := K (hop k c, 0))
      (by rw [duties_bar]; exact Finset.mem_univ k) (amount_bar m (hop k c) k) () O rfl)
  isplitr; · iapply (inv_bar m K (hop k c)); iexact HR
  isplitl [HO]; · iexact HO
  isplitl [Ht]; · iexact Ht
  isplitl [Hs]
  · rw [payload_bar]; unfold barPay; rw [back_hop]; iexists f; iexact Hs
  · iapply (reached_bar m K (hop k c)); iexact HR

/-- The wait for the three units. -/
theorem wp_bar {k' : ℕ} (hk' : k' = 3) (W : Waits sig Unit)
    {α : Type} {Q : α → sProp 𝕄} {kk : PUnit → Prog (TpuEff nD τ sig (Elt F) Λ₀ .tc) α} :
    iprop(records m K ∗ levAts L lv ∗ owes (c : Thread nD τ) (O₃ c) W ∗ atPos ER (barCell c) 0 ∅ 0 ∗ cred (tallyAt (barCell c) () 3))
      ⊢ iprop(((∃ W', owes (c : Thread nD τ) (O₃ c) W') ∗ atPos ER (barCell c) 1 ∅ 0 ∗ barPay c 0 ∗ barPay c 1 ∗ barPay c 2
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS k') kk) Q) := by
  subst hk'
  iintro ⟨#HR, #Hlev, HO, Hat, Hc⟩ Hk
  iapply (Rounds.wp_wait_rest_token 𝒱₀ ER (ringRd m) (c : Thread nD τ) none (κ := K (c, 0))
      (wpE_semWait_eq 𝒱₀ (c : Thread nD τ) none Set.univ) (Set.mem_univ _) () (O := O₃ c) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

theorem credit_slot (q : Dev nD) : (slotM q).view.dmaCredit = N := rfl
theorem snd_pay : ((slotM c).view.loc (c : Thread nD τ) ↦[(slotM c).view.set]{shr k} (gAll m : Buf (Elt F) ((slotM c).view.loc (c : Thread nD τ))) : sProp 𝕄)
    ⊢ (ringRd m).payload (sendCell k c) 0 0 := by
  rw [payload_send]; unfold sendPay slotPts; exact BI.Entails.refl _
theorem rcv_pay (f : S4x2x1024.Idx → Elt F .f32) :
    ((slotM c).view.loc (hop k c : Thread nD τ) ↦[(slotM c).view.set]{fullShare}
        ((slotM c).view.write (Elt F) f ((slotM c).view.read (Elt F) (gAll m)) Finset.univ : Buf (Elt F) ((slotM c).view.loc (hop k c : Thread nD τ))) : sProp 𝕄)
      ⊢ (ringRd m).payload (recvCell k (hop k c)) 0 0 := by
  rw [payload_recv]; unfold recvPay; rw [back_hop]
  exact Entails.of_eq (slot_congr (hop k c) c fullShare (copy_slot (gAll m) c f))

/-- The copy of `c`'s slot to `hop k c`. -/
theorem wp_snd (n : Dev nD) (hn : n = hop k c) (f : S4x2x1024.Idx → Elt F .f32) (O : CellTallies nD τ sig Unit) (W : Waits sig Unit)
    {hsc : (slotM c : Memref sig (Dev.tc n : Thread nD τ).2.kind .vmem S1x2x1024 .f32).view.ref.isScScratch = false}
    {hsrc : (slotM c).view.WordExact} {hdst : (slotM c).view.WordExact}
    {hsem : DmaTarget.Typed .vmem (.dma (recvS k)) (.remote (Dev.tc n : Thread nD τ) (slotM c : Memref sig (Dev.tc n : Thread nD τ).2.kind .vmem S1x2x1024 .f32) (.dma (sendS k)) hsc)}
    {α : Type} {Q : α → sProp 𝕄} {kk : PUnit → Prog (TpuEff nD τ sig (Elt F) Λ₀ .tc) α} :
    iprop(records m K ∗ slotPts c c (shr k) (gAll m) ∗ slotPts (hop k c) c fullShare f
        ∗ owes (c : Thread nD τ) (O + tallyAt (recvCell k (hop k c)) () N) W
        ∗ dutyTok ER (sendCell k c) 0 (0 : Fin 3) ∗ dutyTok ER (recvCell k (hop k c)) 0 (0 : Fin 3))
      ⊢ iprop((cred (tallyAt (sendCell k c) () N) ∗ owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM c) (.remote (Dev.tc n : Thread nD τ) (slotM c) (.dma (sendS k)) hsc) (.dma (recvS k)) hsrc hdst hsem) kk) Q) := by
  subst hn
  iintro ⟨#HR, Hs, Hd, HO, Ht, Ht'⟩
  iapply (Rounds.wp_send_pointsTo 𝒱₀ ER (ringRd m) (c : Thread nD τ) none (c' := (hop k c : Thread nD τ)) (src := slotM c) (dst := slotM c)
    (sS := .dma (sendS k)) (sem := .dma (recvS k)) (hsc := hsc) (hsrc := hsrc) (hdst := hdst) (hsem := hsem) (k := kk) (Q := Q) (κ₁ := K (c, sj k)) (κ₂ := K (hop k c, rj k))
    (r₁ := 0) (r₂ := 0) (d₁ := 0) (d₂ := 0) (q := shr k) (fs := gAll m) (fd := f)
    (by rw [duties_send]; exact Finset.mem_singleton_self _) (by rw [duties_recv]; exact Finset.mem_singleton_self _)
    () () N (credit_slot c) (amount_send m c k 0) (amount_recv m (hop k c) k 0) O rfl (W := W)
    (snd_pay m k c) (rcv_pay m k c f))
  isplitr; · iapply (inv_send m K k c); iexact HR
  isplitr; · iapply (inv_recv m K k (hop k c)); iexact HR
  isplitl [Hs]; · unfold slotPts; iexact Hs
  isplitl [Hd]; · unfold slotPts; iexact Hd
  isplitl [HO]; · iexact HO
  isplitl [Ht]; · iexact Ht
  isplitr; · iapply (reached_send m K k c); iexact HR
  isplitl [Ht']; · iexact Ht'
  iapply (reached_recv m K k (hop k c)); iexact HR

/-- The wait for the copy from `back k c`; -/
theorem wp_rcv (v v' : Memref sig .tc .vmem S1x2x1024 .f32) {hs : v.view.WordExact} {hd : v'.view.WordExact} (hN : v'.view.dmaCredit = N) (W : Waits sig Unit)
    {α : Type} {Q : α → sProp 𝕄} {kk : PUnit → Prog (TpuEff nD τ sig (Elt F) Λ₀ .tc) α} :
    iprop(records m K ∗ owes (c : Thread nD τ) 0 W ∗ atPos ER (recvCell k c) 0 ∅ 0 ∗ cred (tallyAt (recvCell k c) () N))
      ⊢ iprop(((∃ W', owes (c : Thread nD τ) 0 W') ∗ atPos ER (recvCell k c) 1 ∅ 0 ∗ recvPay m k c
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) v v' hs hd) kk) Q) := by
  iintro ⟨#HR, HO, Hat, Hc⟩ Hk
  iapply (Rounds.wp_wait_rest_token 𝒱₀ ER (ringRd m) (c : Thread nD τ) none (κ := K (c, rj k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K k c); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c k)) $$ Hpay
  iapply Hk
  isplitl [HO]; · iexists _; iexact HO
  isplitl [Hat]; · iexact Hat
  iexact Hp

/-- and for `c`'s own copy to `hop k c`. -/
theorem wp_snt (v v' : Memref sig .tc .vmem S1x2x1024 .f32) {hs : v.view.WordExact} {hd : v'.view.WordExact} (hN : v'.view.dmaCredit = N) (W : Waits sig Unit)
    {α : Type} {Q : α → sProp 𝕄} {kk : PUnit → Prog (TpuEff nD τ sig (Elt F) Λ₀ .tc) α} :
    iprop(records m K ∗ owes (c : Thread nD τ) 0 W ∗ atPos ER (sendCell k c) 0 ∅ 0 ∗ cred (tallyAt (sendCell k c) () N))
      ⊢ iprop(((∃ W', owes (c : Thread nD τ) 0 W') ∗ atPos ER (sendCell k c) 1 ∅ 0 ∗ sendPay m k c
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) v v' hs hd) kk) Q) := by
  iintro ⟨#HR, HO, Hat, Hc⟩ Hk
  iapply (Rounds.wp_wait_rest_token 𝒱₀ ER (ringRd m) (c : Thread nD τ) none (κ := K (c, sj k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K k c); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c k)) $$ Hpay
  iapply Hk
  isplitl [HO]; · iexists _; iexact HO
  isplitl [Hat]; · iexact Hat
  iexact Hp

/-- A semaphore whose one round is over is at zero. -/
theorem close_k (j : Fin 7) : iprop(records m K ∗ atPos ER (kcell (c, j)) 1 ∅ 0) ⊢ (|={Set.univ}=> semVal (kcell (c, j)) 0 : sProp 𝕄) := by
  iintro ⟨#HR, Hat⟩
  iapply (Rounds.cell_close ER (ringRd m) (Set.mem_univ (K (c, j))) (fun h => h) (R := 1) (duties_later m (kcell (c, j))))
  isplitr; · iapply (inv_at m K (c, j)); iexact HR
  iexact Hat

end Ops

/-! ## The store into its own slot -/

theorem own_slot_sub (c : Dev nD) {off : Fin 3 → ℕ} (e : off = k0_off2 c) (inb : ∀ a, off a + S1x2x1024.size a ≤ S4x2x1024.size a) :
    (gM.access (Rect.unit (s := S4x2x1024) off S1x2x1024.size inb) : View sig .tc _ _ _).setOn Finset.univ ⊆ (slotM c).view.set := by
  subst e; exact View.setOn_subset_set _ _
theorem own_slot_load (c : Dev nD) {off : Fin 3 → ℕ} (e : off = k0_off2 c) (inb : ∀ a, off a + S1x2x1024.size a ≤ S4x2x1024.size a) :
    gM.view.setOn (Rect.unit (s := S4x2x1024) off S1x2x1024.size inb).set ⊆ (slotM c).view.set := by
  subst e; rw [slot_set]; intro i hi; obtain ⟨j, hj, rfl⟩ := Finset.mem_map.mp hi; exact hj
theorem own_slot_store (c : Dev nD) {off : Fin 3 → ℕ} (e : off = k0_off2 c) (inb : ∀ a, off a + S1x2x1024.size a ≤ S4x2x1024.size a)
    (f : S4x2x1024.Idx → Elt F .f32) (x : S2x1024.Idx → Elt F .f32) (hx : x = accS m 7 c) :
    ∀ i ∈ (slotM c).view.set, (gM.access (Rect.unit (s := S4x2x1024) off S1x2x1024.size inb) : View sig .tc _ _ _).write (Elt F) f (k0_pay9 x) Finset.univ i = gAll m i := by
  subst e hx
  exact store_slot (accS m 7) c f (fun j => pay9_apply _ j)

theorem own_slot_pts (c : Dev nD) {off : Fin 3 → ℕ} (e : off = k0_off2 c) (inb : ∀ a, off a + S1x2x1024.size a ≤ S4x2x1024.size a)
    (f : S4x2x1024.Idx → Elt F .f32) (x : S2x1024.Idx → Elt F .f32) (hx : x = accS m 7 c) :
    ((gM.access (Rect.unit (s := S4x2x1024) off S1x2x1024.size inb) : View sig .tc _ _ _).loc (c : Thread nD τ) ↦[(slotM c).view.set]{fullShare}
        (gM.access (Rect.unit (s := S4x2x1024) off S1x2x1024.size inb) : View sig .tc _ _ _).write (Elt F) f (k0_pay9 x) Finset.univ : sProp 𝕄)
      ⊢ slotPts c c fullShare (gAll m) := by
  subst e
  exact Entails.of_eq (slot_congr c c fullShare (own_slot_store m c rfl inb f x hx))

section Last

variable (c : Dev nD) (i : grid0.Coords) (M : Memref sig .tc .vmem S1024x1024 .f32) (hM : M.IsWhole)
  (hM' : oM.IsWhole) (X : S1024x1024.Idx → Elt F .f32)

/-- The result's buffer. -/
def outPts (c : Dev nD) (f : S2x1024.Idx → Elt F .f32) : sProp 𝕄 :=
  ((c : Thread nD τ).loc cc0_stg1_0) ↦{fullShare} (f : Buf (Elt F) ((c : Thread nD τ).loc cc0_stg1_0))

def lastPre (K : Dev nD × Fin 7 → ℕ) (a b : S1x1024.Idx → Elt F .f32) (W : Waits sig Unit) : sProp 𝕄 :=
  iprop(own1 c M X ∗ accPts c (stack a b) ∗ (∃ f, gPts c f) ∗ (∃ f, outPts c f) ∗ ghost m K c ∗ creds3 c ∗ levAts L lv ∗ owes (c : Thread nD τ) (O₀ c) W)
def lastPost : sProp 𝕄 :=
  iprop(own1 c M X ∗ accPts c (accS m 7 c) ∗ gPts c (gAll m) ∗ outPts c (outC m) ∗ zeros c ∗ ∃ W', owes (c : Thread nD τ) 0 W')

set_option maxHeartbeats 4000000 in
/-- At the last grid point. -/
theorem sound_last (K : Dev nD × Fin 7 → ℕ) (hi : (i 0).val = 7) (a b : S1x1024.Idx → Elt F .f32)
    (hacc : stack (k0_pay7 X a) (k0_pay8 i c X a b) = accS m 7 c) (W : Waits sig Unit) (Kt : PUnit → sProp 𝕄) :
    iprop(lastPre m c M X K a b W ∗ (lastPost m c M X -∗ Kt ⟨⟩))
      ⊢ wp frame (wpE (defs₀ (F := F)) 𝒱₀ c none) Set.univ (kbody (F := F) i M hM oM hM') Kt := by
  unfold kbody
  rw [cc0_body_eq_skeleton]; unfold cc0_body_skel
  dsimp only
  have h1 := fun h => (by omega : ¬ (i 0).val = 0) ((cond1_iff i).mp h)
  have h2 := (cond2_iff i).mpr (by omega)
  have h3 : k0_cond3 i = 1#1 := (cond3_iff i).mpr hi
  have eoff : k0_off1 c = k0_off2 c := (k0_off1_eq c).trans (k0_off2_eq c).symm
  simp only [dif_neg h1, dif_pos h2, dif_pos h3]
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold lastPre own1 owns accPts ghost linear poss payToks creds3
  iintro ⟨⟨⟨%g, %hg, HX⟩, Ha, ⟨%fg, Hg⟩, ⟨%fo, Hout⟩, ⟨#HR, ⟨HaB, ⟨HaS0, HaS1, HaS2⟩, HaV0, HaV1, HaV2⟩, ⟨HtB0, HtB1, HtB2⟩, ⟨HtS0, HtS1, HtS2⟩, HtV0, HtV1, HtV2⟩, ⟨HcB, HcV0, HcV1, HcV2⟩, #Hlev, HO⟩, Hk⟩
  -- the block joins the accumulator
  iapply (wp_load 𝒱₀ (c : Thread nD τ) none Set.univ (m := M) (View.setOn_subset_set _ _)) $$ HX; iintro HX
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := row0) (Mk := Finset.univ) (Finset.subset_univ _)) $$ Ha; iintro Ha
  iapply (wp_load 𝒱₀ (c : Thread nD τ) none Set.univ (m := aM) (Finset.subset_univ _)) $$ Ha; iintro Ha
  iapply (wp_store 𝒱₀ (c : Thread nD τ) none Set.univ (m := aM) (r := row1) (Mk := Finset.univ) (Finset.subset_univ _)) $$ Ha; iintro Ha
  rw [View.readAt_full, hg, acc_row0, acc_row1, acc_rows, hacc]
  -- the three units, each with a slot of the gather buffer
  unfold gPts
  ihave Hg := (Entails.of_eq (gather_slots c c fg)) $$ Hg
  icases Hg with ⟨Hown, Hs0, Hs1, Hs2⟩
  unfold O₀
  iapply (wp_sig m K 0 c _ (dev1_eq i c h3) (by decide) fg _ W) $$ [HO HtB0 Hs0]
  · isplitr; · iexact HR
    isplitl [HO]; · iexact HO
    isplitl [HtB0] <;> iassumption
  iintro HO
  iapply (wp_sig m K 1 c _ (dev2_eq i c h3) (by decide) fg _ W) $$ [HO HtB1 Hs1]
  · isplitr; · iexact HR
    isplitl [HO]; · iexact HO
    isplitl [HtB1] <;> iassumption
  iintro HO
  iapply (wp_sig m K 2 c _ (dev3_eq i c h3) (by decide) fg _ W) $$ [HO HtB2 Hs2]
  · isplitr; · iexact HR
    isplitl [HO]; · iexact HO
    isplitl [HtB2] <;> iassumption
  iintro HO
  -- its own slot
  iapply (wp_load 𝒱₀ (c : Thread nD τ) none Set.univ (m := aM) (Finset.subset_univ _)) $$ Ha; iintro Ha
  rw [acc_whole]
  unfold slotPts
  iapply (wp_load 𝒱₀ (c : Thread nD τ) none Set.univ (m := gM) (own_slot_load c eoff _)) $$ Hown; iintro Hown
  iapply (wp_store 𝒱₀ (c : Thread nD τ) none Set.univ (m := gM) (r := Rect.unit (s := S4x2x1024) (k0_off1 c) S1x2x1024.size (k0_off1_inb i c h3)) (Mk := Finset.univ) (own_slot_sub c eoff _)) $$ Hown; iintro Hown
  ihave Hown := (own_slot_pts m c eoff _ fg (accS m 7 c) rfl) $$ Hown
  ihave Hown := (slot_shares c c (gAll m)).1 $$ Hown
  icases Hown with ⟨Hq0, Hq1, Hq2⟩
  -- the others are ready
  iapply (wp_bar m K c (by decide) W) $$ [HO HaB HcB]
  · isplitr; · iexact HR
    isplitr; · iexact Hlev
    isplitl [HO]; · iexact HO
    isplitl [HaB] <;> iassumption
  iintro ⟨⟨%W1, HO⟩, HaB, Hp0, Hp1, Hp2⟩
  unfold barPay
  rw [back0, back1, back2]
  icases Hp0 with ⟨%f2, Hd2⟩
  icases Hp1 with ⟨%f1, Hd1⟩
  icases Hp2 with ⟨%f0, Hd0⟩
  -- the copies
  unfold O₃
  iapply (wp_snd m K 0 c _ (dev4_eq i c h3) f0 _ W1) $$ [Hq0 Hd0 HO HtS0 HtV0]
  · isplitr; · iexact HR
    isplitl [Hq0]; · iexact Hq0
    isplitl [Hd0]; · iexact Hd0
    isplitl [HO]; · iexact HO
    isplitl [HtS0] <;> iassumption
  iintro ⟨HcS0, HO⟩
  iapply (wp_snd m K 1 c _ (dev5_eq i c h3) f1 _ W1) $$ [Hq1 Hd1 HO HtS1 HtV1]
  · isplitr; · iexact HR
    isplitl [Hq1]; · iexact Hq1
    isplitl [Hd1]; · iexact Hd1
    isplitl [HO]; · iexact HO
    isplitl [HtS1] <;> iassumption
  iintro ⟨HcS1, HO⟩
  iapply (wp_snd m K 2 c _ (dev6_eq i c h3) f2 _ W1) $$ [Hq2 Hd2 HO HtS2 HtV2]
  · isplitr; · iexact HR
    isplitl [Hq2]; · iexact Hq2
    isplitl [Hd2]; · iexact Hd2
    isplitl [HO]; · iexact HO
    isplitl [HtS2] <;> iassumption
  iintro ⟨HcS2, HO⟩
  -- the waits
  iapply (wp_rcv m K 0 c _ _ (by rfl) W1) $$ [HO HaV0 HcV0]
  · isplitr; · iexact HR
    isplitl [HO]; · iexact HO
    isplitl [HaV0] <;> iassumption
  iintro ⟨⟨%W2, HO⟩, HaV0, Hr0⟩
  iapply (wp_rcv m K 1 c _ _ (by rfl) W2) $$ [HO HaV1 HcV1]
  · isplitr; · iexact HR
    isplitl [HO]; · iexact HO
    isplitl [HaV1] <;> iassumption
  iintro ⟨⟨%W3, HO⟩, HaV1, Hr1⟩
  iapply (wp_rcv m K 2 c _ _ (by rfl) W3) $$ [HO HaV2 HcV2]
  · isplitr; · iexact HR
    isplitl [HO]; · iexact HO
    isplitl [HaV2] <;> iassumption
  iintro ⟨⟨%W4, HO⟩, HaV2, Hr2⟩
  iapply (wp_snt m K 0 c _ _ (by rfl) W4) $$ [HO HaS0 HcS0]
  · isplitr; · iexact HR
    isplitl [HO]; · iexact HO
    isplitl [HaS0] <;> iassumption
  iintro ⟨⟨%W5, HO⟩, HaS0, Hq0⟩
  iapply (wp_snt m K 1 c _ _ (by rfl) W5) $$ [HO HaS1 HcS1]
  · isplitr; · iexact HR
    isplitl [HO]; · iexact HO
    isplitl [HaS1] <;> iassumption
  iintro ⟨⟨%W6, HO⟩, HaS1, Hq1⟩
  iapply (wp_snt m K 2 c _ _ (by rfl) W6) $$ [HO HaS2 HcS2]
  · isplitr; · iexact HR
    isplitl [HO]; · iexact HO
    isplitl [HaS2] <;> iassumption
  iintro ⟨⟨%W7, HO⟩, HaS2, Hq2⟩
  unfold sendPay recvPay
  rw [back0, back1, back2]
  ihave Hown := (slot_shares c c (gAll m)).2 $$ [Hq0 Hq1 Hq2]
  · isplitl [Hq0]; · iexact Hq0
    isplitl [Hq1] <;> iassumption
  ihave Hg := (Entails.of_eq (gather_slots c c (gAll m)).symm) $$ [Hown Hr0 Hr1 Hr2]
  · isplitl [Hown]; · iexact Hown
    isplitl [Hr2]; · iexact Hr2
    isplitl [Hr1] <;> iassumption
  imod (close_k m K c 0) $$ [HaB] with HzB
  · isplitr; · iexact HR
    iexact HaB
  imod (close_k m K c 1) $$ [HaS0] with HzS0
  · isplitr; · iexact HR
    iexact HaS0
  imod (close_k m K c 2) $$ [HaS1] with HzS1
  · isplitr; · iexact HR
    iexact HaS1
  imod (close_k m K c 3) $$ [HaS2] with HzS2
  · isplitr; · iexact HR
    iexact HaS2
  imod (close_k m K c 4) $$ [HaV0] with HzV0
  · isplitr; · iexact HR
    iexact HaV0
  imod (close_k m K c 5) $$ [HaV1] with HzV1
  · isplitr; · iexact HR
    iexact HaV1
  imod (close_k m K c 6) $$ [HaV2] with HzV2
  · isplitr; · iexact HR
    iexact HaV2
  -- the result
  unfold outPts
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  rw [gAll, gat_rows0, gat_rows1]
  iapply (wp_load 𝒱₀ (c : Thread nD τ) none Set.univ (m := oM) (Finset.subset_univ _)) $$ Hout; iintro Hout
  iapply (wp_store 𝒱₀ (c : Thread nD τ) none Set.univ (m := oM) (r := row0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := row1) (Mk := Finset.univ) (Finset.subset_univ _)) $$ Hout; iintro Hout
  rw [out_rows, wp_ret]; imodintro
  iapply Hk
  unfold lastPost own1 owns accPts gPts outPts zeros
  isplitl [HX]
  · iexists g; isplitr; · (ipureintro; exact hg)
    iexact HX
  isplitl [Ha]; · iexact Ha
  isplitl [Hg]; · iexact Hg
  isplitl [Hout]; · iexact Hout
  isplitl [HzB HzS0 HzS1 HzS2 HzV0 HzV1 HzV2]
  · isplitl [HzB]; · iexact HzB
    isplitl [HzS0 HzS1 HzS2]
    · isplitl [HzS0]; · iexact HzS0
      isplitl [HzS1]; · iexact HzS1
      iexact HzS2
    · isplitl [HzV0]; · iexact HzV0
      isplitl [HzV1]; · iexact HzV1
      iexact HzV2
  iexists W7; iexact HO

end Last

end Cert.KernelIdeal.Max
-- ==== Proof.KernelIdeal.Points.lean ====
/- The kernel's body at every grid point, as the pipeline calls it. -/
module

public import proofs.«01_k».proof.Proof.KernelIdeal.Last

@[expose] public section

set_option maxRecDepth 16384

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem coord_val (t : Fin grid0.N) : (grid0.coords t 0).val = t.val := by revert t; decide +kernel
theorem stage1_eq (s : Fin 1) : win0_1.stage s = oM := by fin_cases s; rfl

theorem idle1 (t : Fin cfg0.N) : cfg0.idle 1 (cfg0.grid.coords t) = !(k0_cond3 (grid0.coords t) == 1#1) := rfl
theorem idle1_true (t : Fin cfg0.N) (h : t.val ≠ 7) : cfg0.idle 1 (cfg0.grid.coords t) = true := by
  rw [idle1]; have h' : ¬k0_cond3 (grid0.coords t) = 1#1 := fun e => h (by rw [← coord_val t]; exact (cond3_iff _).mp e)
  simp [h']
theorem idle1_false (t : Fin cfg0.N) (h : t.val = 7) : cfg0.idle 1 (cfg0.grid.coords t) = false := by
  rw [idle1, (cond3_iff _).mpr (by rw [coord_val t]; exact h)]; rfl
theorem lt8 (t : Fin cfg0.N) : t.val < 8 := lt_of_lt_of_eq t.isLt N_0
theorem pt_val (t : Fin grid0.N) (n : ℕ) (h : t.val = n) : pt n = t := Fin.ext (by show n % 8 = t.val; have := lt8 t; omega)

theorem bigSep_W (Φ : Fin cfg0.W → sProp 𝕄) : bigSep Finset.univ Φ = iprop(Φ (0 : Fin 2) ∗ Φ (1 : Fin 2)) := bigSep_W0 Φ

theorem before_0 (c : Dev nD) (t : Fin cfg0.N) (d) : (dats m ρ 0 c).before 0 t d = xblk m c t := by
  unfold Dat.before; rw [if_pos (fetch0_0 t)]; rfl

theorem leaves_0 (c : Dev nD) (t : Fin cfg0.N) :
    (dats (F := F) m ρ 0 c).leavesExact 0 t = owns (c : Thread nD τ) (win0_0.stage (cfg0.slots t 0)) fullShare (xblk m c t) := rfl
theorem leaves_1 (c : Dev nD) (t : Fin cfg0.N) (h : t.val = 7) :
    (dats (F := F) m ρ 0 c).leavesExact 1 t = owns (c : Thread nD τ) (win0_1.stage (cfg0.slots t 1)) fullShare (outC m) := by
  unfold Dat.leavesExact; rw [idle1_false t h]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem own_out (c : Dev nD) (X : S2x1024.Idx → Elt F .f32) :
    (owns (Ix := Unit) (Name := ℕ) (U := UU) (Lvl := ℕ) (c : Thread nD τ) oM fullShare X : sProp 𝕄) ⊣⊢ outPts c X := by
  rw [show oM = Memref.whole cc0_stg1_0 from rfl, owns_whole_eq c cc0_stg1_0 X]
  refine ⟨?_, ?_⟩
  · iintro ⟨%f, %hf, H⟩; subst hf; unfold outPts; iexact H
  · unfold outPts
    iintro H; iexists _; isplitr; · (ipureintro; rfl)
    iexact H

theorem acc_zero (c : Dev nD) (t : Fin grid0.N) (h : t.val = 0) :
    stack (k0_pay4 (xblk m c t)) (k0_pay5 (grid0.coords t) c (xblk m c t)) = accS m 0 c := by
  obtain rfl := pt_val t 0 h
  simp only [accS, accV]
theorem acc_succ (c : Dev nD) (t : Fin grid0.N) (n : ℕ) (h : t.val = n + 1) :
    stack (k0_pay7 (xblk m c t) (accV m c n).1) (k0_pay8 (grid0.coords t) c (xblk m c t) (accV m c n).1 (accV m c n).2) = accS m (n + 1) c := by
  obtain rfl := pt_val t (n + 1) h
  simp only [accS, accV]

/-- The last point, the result's buffer `M'` named up to an equality. -/
theorem last_point (c : Dev nD) (t : Fin grid0.N) (h7 : t.val = 7) (M : Memref sig .tc .vmem S1024x1024 .f32) (hM : M.IsWhole)
    (M' : Memref sig .tc .vmem S2x1024 .f32) (e : oM = M') (hM' : M'.IsWhole)
    (P P' : Waits sig Unit → Prop) (hP' : ∀ W, P' W) {A B : Type} (Y : B → S2x1024.Idx → Elt F .f32) (Z : A → S1024x1024.Idx → Elt F .f32)
    (hZ : ∀ d, Z d = xblk m c t) :
    (iprop((start m c ∗ accPts c (accS m (7 - 1) c) ∗ ∃ f, gPts c f) ∗ (∃ W, ⌜P W⌝ ∗ owes (c : Thread nD τ) (O₀ c) W)
      ∗ (∃ d, own1 c M (Z d)) ∗ ∃ d, owns (c : Thread nD τ) M' fullShare (Y d)) : sProp 𝕄)
    ⊢ wp frame (wpE (defs₀ (F := F)) 𝒱₀ c none) Set.univ (kbody (F := F) (grid0.coords t) M hM M' hM') fun _ =>
      iprop((zeros c ∗ (∃ f, accPts c f) ∗ ∃ f, gPts c f) ∗ (∃ W, ⌜P' W⌝ ∗ owes (c : Thread nD τ) 0 W)
        ∗ own1 c M (xblk m c t) ∗ owns (c : Thread nD τ) M' fullShare (outC m)) := by
  subst e
  iintro ⟨⟨Hs, Ha, Hg⟩, ⟨%W, %hW, HO⟩, ⟨%d0, Hx⟩, ⟨%d1, Hout⟩⟩
  unfold start
  icases Hs with ⟨⟨%K, Hgh⟩, Hcr, Hlev⟩
  rw [hZ]
  ihave Hout := (own_out c _).1 $$ Hout
  iapply (sound_last m c (grid0.coords t) M hM hM' (xblk m c t) K (by have := coord_val t; omega)
    (accV m c 6).1 (accV m c 6).2 (acc_succ m c t 6 h7) W _)
  isplitl
  · unfold lastPre
    isplitl [Hx]; · iexact Hx
    isplitl [Ha]; · iexact Ha
    isplitl [Hg]; · iexact Hg
    isplitl [Hout]; · iexists _; iexact Hout
    isplitl [Hgh]; · iexact Hgh
    isplitl [Hcr]; · iexact Hcr
    isplitl [Hlev] <;> iassumption
  · unfold lastPost
    iintro ⟨Hx, Ha, Hg, Hout, Hz, ⟨%W', HO⟩⟩
    isplitl [Hz Ha Hg]
    · isplitl [Hz]; · iexact Hz
      isplitl [Ha]; · iexists _; iexact Ha
      iexists _; iexact Hg
    isplitl [HO]
    · iexists W'; isplitr; · ipureintro; exact hP' W'
      iexact HO
    isplitl [Hx]; · iexact Hx
    iapply (own_out c (outC m)).2; iexact Hout

theorem body_obligation (c : Dev nD) : BodyObligation (dats (F := F) m ρ 0 c) (defs₀ (F := F)) 𝒱₀ () Set.univ := fun t => by
  rw [bigSep_W, bigSep_W]
  show iprop(Phi m c t.val ∗ (dats m ρ 0 c).owesAt () t.castSucc
      ∗ (∃ d, owns (c : Thread nD τ) (win0_0.stage (cfg0.slots t 0)) fullShare ((dats m ρ 0 c).before 0 t d))
      ∗ (∃ d, owns (c : Thread nD τ) (win0_1.stage (cfg0.slots t 1)) fullShare ((dats m ρ 0 c).before 1 t d)))
    ⊢ wp frame (wpE (defs₀ (F := F)) 𝒱₀ c none) Set.univ
      (kbody (F := F) (grid0.coords t) (win0_0.stage (cfg0.slots t 0)) (hstage0_0 ((cfg0.slots t 0).cast nbuf0_0)) (win0_1.stage (cfg0.slots t 1)) (hstage0_1 ((cfg0.slots t 1).cast nbuf0_1)))
      (fun _ => iprop(Phi m c (t.val + 1) ∗ (dats m ρ 0 c).owesAt () t.succ ∗ (dats m ρ 0 c).leavesExact 0 t ∗ (dats m ρ 0 c).leavesExact 1 t))
  have ht8 := lt8 t
  have hcv := coord_val t
  rw [leaves_0]
  unfold Dat.owesAt Pipeline.owesWithin
  rw [show (dats m ρ 0 c).owed t.castSucc = O₀ c from if_pos ht8]
  by_cases h7 : t.val = 7
  · rw [leaves_1 m ρ c t h7, show (dats m ρ 0 c).owed t.succ = 0 from if_neg (by show ¬ t.val + 1 < 8; omega)]
    unfold Phi
    rw [if_neg (by omega : ¬ t.val = 0), if_pos ht8, if_neg (by omega : ¬ t.val + 1 = 0), if_neg (by omega : ¬ t.val + 1 < 8), h7]
    exact last_point m c t h7 _ _ _ (stage1_eq _).symm _ _ _ (fun _ _ _ => Or.inl trivial) _ _ (fun d => before_0 m ρ c t d)
  · rw [Dat.leavesExact_idle _ (1 : Fin 2) t (idle1_true t h7) (Bool.eq_false_iff.mpr fun h => by have := (flush0_1 t).mp h; omega),
      show (dats m ρ 0 c).owed t.succ = O₀ c from if_pos (by show t.val + 1 < 8; omega)]
    by_cases h0 : t.val = 0
    · unfold Phi
      rw [if_pos h0, if_neg (by omega : ¬ t.val + 1 = 0), if_pos (by omega : t.val + 1 < 8)]
      iintro ⟨⟨Hs, Ha, Hg⟩, HO, ⟨%d0, Hx⟩, Hout⟩
      rw [before_0]
      iapply (sound_first c (grid0.coords t) _ (hstage0_0 ((cfg0.slots t 0).cast nbuf0_0)) _ (hstage0_1 ((cfg0.slots t 1).cast nbuf0_1)) (xblk m c t) (by omega) _)
      isplitl [Hx Ha]
      · isplitl [Hx]; · iexact Hx
        iexact Ha
      iintro ⟨Hx, Ha⟩
      rw [show stack (k0_pay4 (xblk m c t)) (k0_pay5 (grid0.coords t) c (xblk m c t)) = accS m (t.val + 1 - 1) c from by
        rw [show t.val + 1 - 1 = 0 by omega]; exact acc_zero m c t h0]
      isplitl [Hs Ha Hg]
      · isplitl [Hs]; · iexact Hs
        isplitl [Ha] <;> iassumption
      isplitl [HO]; · iexact HO
      isplitl [Hx]; · iexact Hx
      iexact Hout
    · unfold Phi
      rw [if_neg h0, if_pos ht8, if_neg (by omega : ¬ t.val + 1 = 0), if_pos (by omega : t.val + 1 < 8)]
      iintro ⟨⟨Hs, Ha, Hg⟩, HO, ⟨%d0, Hx⟩, Hout⟩
      rw [before_0]
      iapply (sound_mid c (grid0.coords t) _ (hstage0_0 ((cfg0.slots t 0).cast nbuf0_0)) _ (hstage0_1 ((cfg0.slots t 1).cast nbuf0_1)) (xblk m c t) (by omega) (by omega)
        (accV m c (t.val - 1)).1 (accV m c (t.val - 1)).2 _)
      isplitl [Hx Ha]
      · isplitl [Hx]; · iexact Hx
        iexact Ha
      iintro ⟨Hx, Ha⟩
      rw [show stack (k0_pay7 (xblk m c t) (accV m c (t.val - 1)).1) (k0_pay8 (grid0.coords t) c (xblk m c t) (accV m c (t.val - 1)).1 (accV m c (t.val - 1)).2)
          = accS m (t.val + 1 - 1) c from by
        rw [acc_succ m c t (t.val - 1) (by omega)]; congr 1; omega]
      isplitl [Hs Ha Hg]
      · isplitl [Hs]; · iexact Hs
        isplitl [Ha] <;> iassumption
      isplitl [HO]; · iexact HO
      isplitl [Hx]; · iexact Hx
      iexact Hout

end Cert.KernelIdeal.Max
-- ==== Proof.KernelIdeal.Launch.lean ====
/- The launch: each device's share of the schedule, and the run of the whole program. -/
module

public import proofs.«01_k».proof.Proof.KernelIdeal.Points
public import Idealize.ShloMosaic.Lib.Pipeline.CollectiveSegs

@[expose] public section

set_option maxRecDepth 16384

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats (F := F) m ρ 0 c).share w = fullShare := by unfold Dat.share; split <;> rfl

/-! ## The schedule's cells and tokens -/

theorem kcell_injective : Function.Injective (kcell : Dev nD × Fin 7 → GSem nD τ sig) := fun a b h => by
  have h1 : a.1 = b.1 := congrArg (fun g : GSem nD τ sig => g.1.1) h
  have h2 : csem a.2 = csem b.2 := congrArg Prod.snd h
  exact Prod.ext h1 (csem_injective h2)
def ringCells : Finset (GSem nD τ sig) := Finset.univ.map ⟨kcell, kcell_injective⟩

/-- A device's nine tokens: three on its barrier, one on each of the six others. -/
def tj : Fin 9 → Fin 7 := ![0, 0, 0, 1, 2, 3, 4, 5, 6]
def td : Fin 9 → Fin 3 := ![0, 1, 2, 0, 0, 0, 0, 0, 0]
theorem tjd_injective : ∀ a b : Fin 9, tj a = tj b → td a = td b → a = b := by decide
abbrev tokOf (cj : Dev nD × Fin 9) : GSem nD τ sig × ℕ × Fin 3 := (kcell (cj.1, tj cj.2), 0, td cj.2)
theorem tokOf_injective : Function.Injective (tokOf : Dev nD × Fin 9 → GSem nD τ sig × ℕ × Fin 3) := fun a b h => by
  have h1 : (a.1, tj a.2) = (b.1, tj b.2) := kcell_injective (congrArg Prod.fst h)
  have h2 : td a.2 = td b.2 := congrArg (fun x : GSem nD τ sig × ℕ × Fin 3 => x.2.2) h
  exact Prod.ext (congrArg (fun x : Dev nD × Fin 7 => x.1) h1) (tjd_injective _ _ (congrArg (fun x : Dev nD × Fin 7 => x.2) h1) h2)
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The tokens of device `c`'s own semaphores. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ (dutyTok ER (sendCell 0 c) 0 (0 : Fin 3) ∗ dutyTok ER (sendCell 1 c) 0 (0 : Fin 3) ∗ dutyTok ER (sendCell 2 c) 0 (0 : Fin 3))
    ∗ (dutyTok ER (recvCell 0 c) 0 (0 : Fin 3) ∗ dutyTok ER (recvCell 1 c) 0 (0 : Fin 3) ∗ dutyTok ER (recvCell 2 c) 0 (0 : Fin 3)))

/-- What the launch deals device `c`. -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)
/-- What it becomes once every device's tokens are dealt round. -/
def G' (c : Dev nD) : sProp 𝕄 := iprop(∃ K, ghost m K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem toks_nine (c : Dev nD) : (bigSep Finset.univ fun j : Fin 9 => (dutyTok ER (tokOf (c, j)).1 (tokOf (c, j)).2.1 (tokOf (c, j)).2.2 : sProp 𝕄)) ⊢ toks c := by
  rw [bigSep_fin9]; unfold toks
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_nine c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Moving `k + 1` places round, as a permutation of the devices. -/
def perm (k : Fin 3) : Dev nD ≃ Dev nD := ⟨hop k, back k, back_hop k, hop_back k⟩

/-- Each token goes to the device that pays the duty. -/
theorem toks_around : (bigSep Finset.univ fun c : Dev nD => (toks c : sProp 𝕄)) ⊢ bigSep Finset.univ fun c : Dev nD => payToks c := by
  unfold toks payToks
  simp only [bigSep_sep']
  rw [bigSep_univ_equiv (perm 0) (fun c : Dev nD => (dutyTok ER (barCell c) 0 (0 : Fin 3) : sProp 𝕄)),
    bigSep_univ_equiv (perm 1) (fun c : Dev nD => (dutyTok ER (barCell c) 0 (1 : Fin 3) : sProp 𝕄)),
    bigSep_univ_equiv (perm 2) (fun c : Dev nD => (dutyTok ER (barCell c) 0 (2 : Fin 3) : sProp 𝕄)),
    bigSep_univ_equiv (perm 0) (fun c : Dev nD => (dutyTok ER (recvCell 0 c) 0 (0 : Fin 3) : sProp 𝕄)),
    bigSep_univ_equiv (perm 1) (fun c : Dev nD => (dutyTok ER (recvCell 1 c) 0 (0 : Fin 3) : sProp 𝕄)),
    bigSep_univ_equiv (perm 2) (fun c : Dev nD => (dutyTok ER (recvCell 2 c) 0 (0 : Fin 3) : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_seven (c : Dev nD) : (bigSep Finset.univ fun k : Fin 7 => (atPos ER (kcell (c, k)) 0 ∅ 0 : sProp 𝕄)) ⊢ poss c := by
  rw [bigSep_fin7]; unfold poss
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

theorem ghost_intro (K : Dev nD × Fin 7 → ℕ) (c : Dev nD) : iprop(records m K ∗ linear c) ⊢ (G' m c : sProp 𝕄) := by
  unfold G' ghost
  iintro H; iexists K; iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from by unfold linear; exact sep_mono_left (poss_seven c)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others owe a device -/

theorem cell_eq {a b : Dev nD} {i j : Fin 7} : kcell (a, i) = kcell (b, j) ↔ a = b ∧ i = j :=
  ⟨fun h => by have := kcell_injective h; exact ⟨congrArg Prod.fst this, congrArg Prod.snd this⟩, fun ⟨h, h'⟩ => by rw [h, h']⟩

theorem tally_k (a b : Dev nD) (i j : Fin 7) (n : ℕ) : tallyAt (kcell (a, i)) () n (kcell (b, j)) () = if b = a ∧ j = i then n else 0 := by
  rw [tallyAt_apply]; exact if_congr (by rw [cell_eq]; simp) rfl rfl

theorem owed_k (d c : Dev nD) (j : Fin 7) : O₀ d (kcell (c, j)) () =
    (if c = hop 2 d ∧ j = 6 then N else 0) + (if c = hop 1 d ∧ j = 5 then N else 0) + (if c = hop 0 d ∧ j = 4 then N else 0)
    + (if c = hop 2 d ∧ j = 0 then 1 else 0) + (if c = hop 1 d ∧ j = 0 then 1 else 0) + (if c = hop 0 d ∧ j = 0 then 1 else 0) := by
  unfold O₀ O₃
  simp only [Pi.add_apply, Finsupp.add_apply, Pi.zero_apply, Finsupp.zero_apply, Nat.zero_add]
  rw [← tally_k (hop 2 d) c 6 j N, ← tally_k (hop 1 d) c 5 j N, ← tally_k (hop 0 d) c 4 j N, ← tally_k (hop 2 d) c 0 j 1,
    ← tally_k (hop 1 d) c 0 j 1, ← tally_k (hop 0 d) c 0 j 1]

theorem eq_hop_iff (k : Fin 3) (c d : Dev nD) : c = hop k d ↔ d = back k c := by rw [eq_comm, hop_eq_iff]

theorem sum_hop (k : Fin 3) (c : Dev nD) (n : ℕ) : (∑ d : Dev nD, if c = hop k d then n else 0) = n := by
  simp only [eq_hop_iff, Finset.sum_ite_eq', Finset.mem_univ, if_true]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_k d c 0]
  simp only [Finset.sum_add_distrib, show ¬(0 : Fin 7) = 6 by decide, show ¬(0 : Fin 7) = 5 by decide, show ¬(0 : Fin 7) = 4 by decide,
    and_false, and_true, if_false, Finset.sum_const_zero, sum_hop, Nat.zero_add, Nat.reduceAdd]

theorem launch_recv0 (c : Dev nD) :
    tallyOn (recvCell 0 c) (launchCredit (Pipeline.owing O₀) 0 (recvCell 0 c)) = (tallyAt (recvCell 0 c) () N : CellTallies nD τ sig Unit) := by
  unfold tallyAt; refine congrArg _ (Finsupp.ext fun u => ?_); cases u
  rw [Pipeline.launchCredit_owing, Finsupp.single_eq_same, Finset.sum_congr rfl fun d _ => owed_k d c 4]
  simp only [Finset.sum_add_distrib, show ¬(4 : Fin 7) = 6 by decide, show ¬(4 : Fin 7) = 5 by decide, show ¬(4 : Fin 7) = 0 by decide,
    and_false, and_true, if_false, Finset.sum_const_zero, sum_hop, Nat.zero_add, Nat.add_zero]
theorem launch_recv1 (c : Dev nD) :
    tallyOn (recvCell 1 c) (launchCredit (Pipeline.owing O₀) 0 (recvCell 1 c)) = (tallyAt (recvCell 1 c) () N : CellTallies nD τ sig Unit) := by
  unfold tallyAt; refine congrArg _ (Finsupp.ext fun u => ?_); cases u
  rw [Pipeline.launchCredit_owing, Finsupp.single_eq_same, Finset.sum_congr rfl fun d _ => owed_k d c 5]
  simp only [Finset.sum_add_distrib, show ¬(5 : Fin 7) = 6 by decide, show ¬(5 : Fin 7) = 4 by decide, show ¬(5 : Fin 7) = 0 by decide,
    and_false, and_true, if_false, Finset.sum_const_zero, sum_hop, Nat.zero_add, Nat.add_zero]
theorem launch_recv2 (c : Dev nD) :
    tallyOn (recvCell 2 c) (launchCredit (Pipeline.owing O₀) 0 (recvCell 2 c)) = (tallyAt (recvCell 2 c) () N : CellTallies nD τ sig Unit) := by
  unfold tallyAt; refine congrArg _ (Finsupp.ext fun u => ?_); cases u
  rw [Pipeline.launchCredit_owing, Finsupp.single_eq_same, Finset.sum_congr rfl fun d _ => owed_k d c 6]
  simp only [Finset.sum_add_distrib, show ¬(6 : Fin 7) = 5 by decide, show ¬(6 : Fin 7) = 4 by decide, show ¬(6 : Fin 7) = 0 by decide,
    and_false, and_true, if_false, Finset.sum_const_zero, sum_hop, Nat.zero_add, Nat.add_zero]

theorem creds (c : Dev nD) : (Pipeline.launchCred O₀ c : sProp 𝕄) ⊢ creds3 c := by
  unfold Pipeline.launchCred creds3
  rw [← launch_bar, ← launch_recv0, ← launch_recv1, ← launch_recv2]
  refine (bigSep_subset (t := ([SemLoc.reg barS, .dma (recvS 0), .dma (recvS 1), .dma (recvS 2)] : List (SemLoc sig)).toFinset) (Finset.subset_univ _)).trans ?_
  rw [bigSep_eq_bigSepL_of_eq [SemLoc.reg barS, .dma (recvS 0), .dma (recvS 1), .dma (recvS 2)] rfl (by decide)]
  exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = iprop(start m c ∗ (∃ f, accPts c f) ∗ ∃ f, gPts c f) from rfl, scopedRest0_eq]
  unfold accPts gPts
  iintro ⟨Hs, -, H⟩
  isplitl [Hs]; · iexact Hs
  iexact H

theorem phi8_exit (c : Dev nD) :
    (dats (F := F) m ρ 0 c).Φ (Fin.last cfg0.N) ⊢ iprop(unscopedSems0 c ∗ Pipeline.ownSems0 osem c ∗ Pipeline.scopedRest cfg0.spec c) := by
  rw [show (dats (F := F) m ρ 0 c).Φ (Fin.last cfg0.N) = Phi m c cfg0.N from rfl, show cfg0.N = 8 from N_0, scopedRest0_eq, ownSems0_eq, unscopedSems0_eq]
  unfold Phi
  rw [if_neg (by decide), if_neg (by decide)]
  unfold zeros accPts gPts
  iintro ⟨⟨HB, ⟨H1, H2, H3⟩, H4⟩, H⟩
  isplitl [HB]; · iexact HB
  isplitr [H]
  · isplitl [H1]; · iexact H1
    isplitl [H2]; · iexact H2
    isplitl [H3]; · iexact H3
    iexact H4
  iexact H

theorem owed_or (c : Dev nD) (t : Fin (cfg0.N + 1)) : (dats (F := F) m ρ 0 c).owed t = O₀ c ∨ (dats (F := F) m ρ 0 c).owed t = 0 := by
  by_cases h : t.val < 8
  · exact Or.inl (if_pos h)
  · exact Or.inr (if_neg h)

theorem waits (c : Dev nD) : (levAts L lv : sProp 𝕄) ⊢ Pipeline.cellsWaits cfgs (dats (F := F) m ρ) () 0 c :=
  Pipeline.cellsWaits_intro cfgs (dats m ρ) () 0 c fun w s t =>
    mayWait_stage c _ (by fin_cases w <;> fin_cases s <;> decide) _ (owed_or m ρ c _)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, every fair execution ends with each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi8_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Max
-- ==== Proof.KernelIdeal.Result.lean ====
/- What the program leaves: on every device the two rows made from the four accumulators, and the argument as it was. -/
module

public import proofs.«01_k».proof.Proof.KernelIdeal.Launch
public import Idealize.ShloMosaic.Lib.Pipeline.ValueKit

@[expose] public section

set_option maxRecDepth 16384

noncomputable section

namespace Cert.KernelIdeal.Max

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_out (c : Dev nD) : finalA m ρ c (1 : Fin 2) = outC m := by
  unfold finalA
  refine (dats m ρ 0 c).arrAt_eq_of_after_last (1 : Fin 2) t0_7 (by decide +kernel) _ fun j => ?_
  blk_simp
  rfl

/-- The whole program: every device ends holding `outC m`, its argument unchanged, every counter at zero. -/
theorem run_out : θ_run defs (onTc (τ := τ) (main (F := F))) (s₀ m ρ) (fun r =>
    (∀ c : Dev nD, r.2.mem ((c : Thread nD τ).loc main_v1) = outC m ∧ r.2.mem ((c : Thread nD τ).loc main_arg0) = m ((c : Thread nD τ).loc main_arg0))
      ∧ r.2.sem = fun _ => 0) :=
  θ_run_mono (run_main m ρ) fun r h => ⟨fun c => ⟨(h.1 c (1 : Fin 2)).trans (finalA_out m ρ c), (h.1 c (0 : Fin 2)).trans (finalA_x m ρ c)⟩, h.2⟩

end Cert.KernelIdeal.Max
-- ==== Proof.ReferenceIdeal.Run.lean ====
/- The reference's run: a straight line of operations on one device. -/
module

public import proofs.«01_k».proof.Proof.Gen.ReferenceIdeal
public import Idealize.ShloMosaic.Lib.Claim
public import Idealize.ShloMosaic.Lib.StableHlo.RunRead
public import Idealize.ShloMosaic.Lib.Quiescent

@[expose] public section

set_option maxRecDepth 16384

noncomputable section

namespace Cert.ReferenceIdeal.Max

open Cert.ReferenceIdeal Cert.ReferenceIdeal.Gen
open Idealize.ShloMosaic Idealize.SL.Sem

variable {F : FTy → Type} [FloatOps F]

/-- The rows' numbers. -/
def rowIx : S32768x1024.Idx → BitVec 32 := iotaInDim S32768x1024 32 0
/-- The second of each pair. -/
def second {J α β : Type} (p : J → α × β) : J → β := fun j => (p j).2
/-- The first row at which each column is greatest; -/
def argR (x : S32768x1024.Idx → F .f32) : S1024.Idx → BitVec 32 :=
  second (Host.argReduce reducer_argmax_f32_i32 x rowIx (constant S_ .f32 0xFF800000#32) (constantI S_ 32 0#32) reducesTo_S32768x1024_S1024_d0 h_S_)
/-- and each column's maximum. -/
def maxR (x : S32768x1024.Idx → F .f32) : S1024.Idx → F .f32 :=
  Host.reduce FloatOps.maximumf x (constant S_ .f32 0xFF800000#32) reducesTo_S32768x1024_S1024_d0 h_S_
/-- The two rows of the result. -/
def refOut (x : S32768x1024.Idx → F .f32) : S2x1024.Idx → F .f32 :=
  concatenate S2x1024 0 [⟨S1x1024, broadcastInDim S1x1024 ![1] bcast_S1024_S1x1024_1 (maxR x)⟩,
    ⟨S1x1024, broadcastInDim S1x1024 ![1] bcast_S1024_S1x1024_1 (sitofp .f32 (argR x))⟩] concatenates_S1x1024_S1x1024_S2x1024_d0

/-- The reference, operation by operation. -/
abbrev ops : List (HloOp τ sig (Elt F)) :=
  [ StableHlo.nullary main_call0_v0 (iotaInDim S32768x1024 32 0),
    StableHlo.nullary main_call0_cst (constant S_ .f32 0xFF800000#32),
    StableHlo.nullary main_call0_c (constantI S_ 32 0#32),
    StableHlo.quaternary main_arg0 main_call0_v0 main_call0_cst main_call0_c main_call0_v1_0
      (fun x y u v j => (Host.argReduce reducer_argmax_f32_i32 x y u v reducesTo_S32768x1024_S1024_d0 h_S_ j).1),
    StableHlo.quaternary main_arg0 main_call0_v0 main_call0_cst main_call0_c main_v0
      (fun x y u v j => (Host.argReduce reducer_argmax_f32_i32 x y u v reducesTo_S32768x1024_S1024_d0 h_S_ j).2),
    StableHlo.unary main_v0 main_v1 (sitofp .f32),
    StableHlo.nullary main_cst (constant S_ .f32 0xFF800000#32),
    StableHlo.binary main_arg0 main_cst main_v2 (fun x v => Host.reduce FloatOps.maximumf x v reducesTo_S32768x1024_S1024_d0 h_S_),
    StableHlo.unary main_v2 main_v3 (broadcastInDim S1x1024 ![1] bcast_S1024_S1x1024_1),
    StableHlo.unary main_v1 main_v4 (broadcastInDim S1x1024 ![1] bcast_S1024_S1x1024_1),
    StableHlo.binary main_v3 main_v4 main_v5 (fun a b => concatenate S2x1024 0 [⟨S1x1024, a⟩, ⟨S1x1024, b⟩] concatenates_S1x1024_S1x1024_S2x1024_d0) ]

theorem main_eq (c : Dev nD) : main (F := F) c = StableHlo.seq ops := rfl

theorem cat_congr {a a' b b' : S1x1024.Idx → F .f32} (h : a = a') (h' : b = b') :
    concatenate S2x1024 0 [⟨S1x1024, a⟩, ⟨S1x1024, b⟩] concatenates_S1x1024_S1x1024_S2x1024_d0
      = concatenate S2x1024 0 [⟨S1x1024, a'⟩, ⟨S1x1024, b'⟩] concatenates_S1x1024_S1x1024_S2x1024_d0 := by subst h h'; rfl

theorem out_eq (V : Valuation τ sig (Elt F)) : StableHlo.after ops V (Proc.devRef .tc main_v5) = refOut (V (Proc.devRef .tc main_arg0)) := by
  after_reads_simp
  refine cat_congr ?_ ?_
  · after_reads_simp
    rfl
  · after_reads_simp
    rfl
theorem arg_eq (V : Valuation τ sig (Elt F)) : StableHlo.after ops V (Proc.devRef .tc main_arg0) = V (Proc.devRef .tc main_arg0) := by
  after_reads_simp

/-- From any memory with every counter at zero, the reference ends with `refOut` of its argument, the argument unchanged. -/
theorem run_ref (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem (c.tc.loc main_v5) = refOut (m (c.tc.loc main_arg0)) ∧ r.2.mem (c.tc.loc main_arg0) = m (c.tc.loc main_arg0)) ∧ r.2.sem = fun _ => 0) :=
  θ_run_mono (StableHlo.run_seq (by decide) (by decide) defs main (fun _ => ops) main_eq (fun _ => by simp) m ρ) fun r h =>
    ⟨fun c => ⟨(h c main_v5).trans (out_eq _), (h c main_arg0).trans (arg_eq _)⟩, sem_eq_zero_of_no_sems rfl r.2⟩

end Cert.ReferenceIdeal.Max
-- ==== Proof.Best.lean ====
/- The largest of a run of numbers together with the first place it stands, and how folds find it. -/
module

public import Idealize.ShloMosaic.PureOps.Ideal.Laws
public import Idealize.ShloMosaic.Lib.Pipeline.Value
public import Idealize.ShloMosaic.Lib.SortNet.Extract

@[expose] public section

noncomputable section

namespace Cert.Max

open Idealize.ShloMosaic

/-! ## The first place of the greatest -/

/-- Of `f lo, …, f (hi - 1)` the greatest is `v`, and `k` is the first place it stands. -/
structure Best (f : ℕ → EReal) (lo hi : ℕ) (v : EReal) (k : ℕ) : Prop where
  le : ∀ n, lo ≤ n → n < hi → f n ≤ v
  ge : lo ≤ k
  lt : k < hi
  here : f k = v
  first : ∀ n, lo ≤ n → n < k → f n < v

namespace Best

variable {f : ℕ → EReal} {lo mid hi : ℕ} {v v' : EReal} {k k' : ℕ}

theorem unique (h : Best f lo hi v k) (h' : Best f lo hi v' k') : v = v' ∧ k = k' := by
  have hv : v = v' := le_antisymm (h.here ▸ h'.le k h.ge h.lt) (h'.here ▸ h.le k' h'.ge h'.lt)
  subst hv
  refine ⟨rfl, ?_⟩
  rcases lt_trichotomy k k' with hk | hk | hk
  · exact absurd h.here (h'.first k h.ge hk).ne
  · exact hk
  · exact absurd h'.here (h.first k' h'.ge hk).ne

/-- A later run takes over only where it is strictly greater. -/
theorem later (h : Best f lo mid v k) (h' : Best f mid hi v' k') (hv : v < v') : Best f lo hi v' k' where
  le n h1 h2 := by
    rcases lt_or_ge n mid with hn | hn
    · exact (h.le n h1 hn).trans hv.le
    · exact h'.le n hn h2
  ge := h.ge.trans (h.lt.le.trans h'.ge)
  lt := h'.lt
  here := h'.here
  first n h1 h2 := by
    rcases lt_or_ge n mid with hn | hn
    · exact (h.le n h1 hn).trans_lt hv
    · exact h'.first n hn h2

theorem earlier (h : Best f lo mid v k) (h' : Best f mid hi v' k') (hv : ¬ v < v') : Best f lo hi v k where
  le n h1 h2 := by
    rcases lt_or_ge n mid with hn | hn
    · exact h.le n h1 hn
    · exact (h'.le n hn h2).trans (not_lt.mp hv)
  ge := h.ge
  lt := h.lt.trans_le (h'.ge.trans h'.lt.le)
  here := h.here
  first := h.first

theorem single (f : ℕ → EReal) (n : ℕ) : Best f n (n + 1) (f n) n where
  le k h1 h2 := by obtain rfl : k = n := by omega
                   exact le_rfl
  ge := le_rfl
  lt := Nat.lt_succ_self n
  here := rfl
  first k h1 h2 := absurd h2 (not_lt.mpr h1)

theorem exists_run (f : ℕ → EReal) (lo : ℕ) : ∀ n, ∃ v k, Best f lo (lo + (n + 1)) v k
  | 0 => ⟨_, _, single f lo⟩
  | n + 1 => by
    obtain ⟨v, k, h⟩ := exists_run f lo n
    have h' := single f (lo + (n + 1))
    by_cases hv : v < f (lo + (n + 1))
    · exact ⟨_, _, h.later h' hv⟩
    · exact ⟨_, _, h.earlier h' hv⟩

/-- A part of the run that holds the place. -/
theorem part (h : Best f lo hi v k) {lo' hi' : ℕ} (hl : lo ≤ lo') (hh : hi' ≤ hi) (h1 : lo' ≤ k) (h2 : k < hi') : Best f lo' hi' v k where
  le n a b := h.le n (hl.trans a) (b.trans_le hh)
  ge := h1
  lt := h2
  here := h.here
  first n a b := h.first n (hl.trans a) b

end Best

/-! ## Folds of `max` and `min` -/

section Fold

variable {ι β : Type} [LinearOrder β]

theorem fold_max_of {b x : β} {s : Finset ι} {g : ι → β} (hb : b ≤ x) (h : ∀ i ∈ s, g i ≤ x) (he : ∃ i ∈ s, g i = x) : s.fold max b g = x := by
  obtain ⟨i, hi, rfl⟩ := he
  exact le_antisymm (Finset.fold_max_le _ |>.mpr ⟨hb, h⟩) (Finset.le_fold_max _ |>.mpr (Or.inr ⟨i, hi, le_rfl⟩))

theorem fold_min_of {b x : β} {s : Finset ι} {g : ι → β} (hb : x ≤ b) (h : ∀ i ∈ s, x ≤ g i) (he : ∃ i ∈ s, g i = x) : s.fold min b g = x := by
  obtain ⟨i, hi, rfl⟩ := he
  exact le_antisymm (Finset.fold_min_le _ |>.mpr (Or.inr ⟨i, hi, le_rfl⟩)) (Finset.le_fold_min _ |>.mpr ⟨hb, h⟩)

end Fold

/-- The signed minimum of words, read as integers. -/
theorem toInt_fold_minsi {ι : Type} (s : Finset ι) (b : BitVec 32) (g : ι → BitVec 32) :
    (s.fold IntOp.minsi b g).toInt = s.fold min b.toInt (fun i => (g i).toInt) :=
  (Finset.fold_hom (op := IntOp.minsi) (op' := min) (m := BitVec.toInt) SortNet.toInt_minsi).symm

/-! ## Reductions down the columns of a matrix -/

/-- Row `r`, column `l` of an `a` by `b` matrix. -/
def at2 {a b : ℕ} (r : Fin a) (l : Fin b) : (⟨2, ![a, b]⟩ : Shape).Idx := fun | ⟨0, _⟩ => r | ⟨1, _⟩ => l

/-- Place `l` of a row of `b` numbers. -/
def at1 {b : ℕ} (l : Fin b) : (⟨1, ![b]⟩ : Shape).Idx := fun | ⟨0, _⟩ => l

theorem at2_self {a b : ℕ} (i : (⟨2, ![a, b]⟩ : Shape).Idx) : i = at2 (i 0) (i 1) := by
  funext x; fin_cases x <;> rfl

theorem lift_eq {a b : ℕ} (h : (⟨2, ![a, b]⟩ : Shape).Reduces [0] ⟨1, ![b]⟩) (j : (⟨1, ![b]⟩ : Shape).Idx) (k : Fin a) :
    h.lift j k = at2 k (j 0) := by
  funext x
  apply Fin.ext
  refine (h.lift_val j k x).trans ?_
  fin_cases x
  · simp [Shape.Reduces.liftVal, at2]
  · simp [Shape.Reduces.liftVal, at2]

section Columns

variable {a b : ℕ} (h : (⟨2, ![a, b]⟩ : Shape).Reduces [0] ⟨1, ![b]⟩) (j : (⟨1, ![b]⟩ : Shape).Idx)

theorem colMax (src : FVec Ideal ⟨2, ![a, b]⟩ .f32) (acc : BitVec 32) (hφ : FKind.Formats .f32) (hacc : acc = FKind.maximumf.neutral .f32 hφ) :
    multiReduction .maximumf [0] ⟨1, ![b]⟩ src acc h hφ hacc j
      = (Finset.univ : Finset (Fin a)).fold max (Ideal.ofBits .f32 acc) (fun k => src (at2 k (j 0))) := by
  rw [Ideal.multiReduction_maximumf_single]
  exact congrArg (fun g : Fin a → EReal => (Finset.univ : Finset (Fin a)).fold max (Ideal.ofBits .f32 acc) g) (funext fun k => congrArg src (lift_eq h j k))

theorem colMin (src : FVec Ideal ⟨2, ![a, b]⟩ .f32) (acc : BitVec 32) (hφ : FKind.Formats .f32) (hacc : acc = FKind.minimumf.neutral .f32 hφ) :
    multiReduction .minimumf [0] ⟨1, ![b]⟩ src acc h hφ hacc j
      = (Finset.univ : Finset (Fin a)).fold min (Ideal.ofBits .f32 acc) (fun k => src (at2 k (j 0))) := by
  rw [multiReduction_minimumf_eq_fold, h.fold_filter_drop_single]
  exact congrArg (fun g : Fin a → EReal => (Finset.univ : Finset (Fin a)).fold min (Ideal.ofBits .f32 acc) g) (funext fun k => congrArg src (lift_eq h j k))

theorem colMinI (src : IVec ⟨2, ![a, b]⟩ 32) (acc : BitVec 32) (hacc : acc = IKind.minsi.neutral) :
    (multiReductionI .minsi [0] ⟨1, ![b]⟩ src acc h hacc j).toInt
      = (Finset.univ : Finset (Fin a)).fold min acc.toInt (fun k => (src (at2 k (j 0))).toInt) := by
  rw [multiReductionI_eq_fold, h.fold_filter_drop_single]
  refine (toInt_fold_minsi _ _ _).trans ?_
  exact congrArg (fun g : Fin a → ℤ => (Finset.univ : Finset (Fin a)).fold min acc.toInt g) (funext fun k => congrArg (fun i => (src i).toInt) (lift_eq h j k))

end Columns

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

theorem ofBits_65536 : Ideal.ofBits .f32 0x47800000#32 = ((65536 : ℝ) : EReal) := by
  simp [Ideal.ofBits, Ideal.ieee]
  norm_num
  exact (EReal.coe_mul _ _).symm.trans (congrArg _ (by norm_num))

/-- Column `l` of the whole array, by row number. -/
def column (X : (⟨2, ![32768, 1024]⟩ : Shape).Idx → EReal) (l : Fin 1024) (n : ℕ) : EReal :=
  if h : n < 32768 then X (at2 ⟨n, h⟩ l) else ⊥

end Cert.Max
-- ==== Proof.KernelIdeal.Block.lean ====
/- What one block of 1024 rows gives: each column's greatest value and the number of the first row it stands in. -/
module

public import proofs.«01_k».proof.Proof.Best
public import proofs.«01_k».proof.Proof.KernelIdeal.Values

@[expose] public section

set_option maxRecDepth 16384

noncomputable section

namespace Cert.KernelIdeal.Max

open Cert.KernelIdeal Cert.KernelIdeal.Gen Cert.Max
open Idealize.ShloMosaic

/-- A row of 1024 read as a matrix of one row. -/
theorem cast_row {α : Type} (x : S1024.Idx → α) (h : S1024.ShapeCasts S1x1024) (l : Fin 1024) :
    shapeCast S1x1024 x h (at2 0 l) = x (at1 l) :=
  shapeCast_apply x h (at2 0 l) (at1 l) (by
    rw [Shape.rowMajor_val_one, Shape.rowMajor_val_two]
    show l.val = 0 * 1024 + l.val
    omega)

theorem spread_row {α : Type} {a : ℕ} (x : S1x1024.Idx → α) (h : S1x1024.Broadcasts ⟨2, ![a, 1024]⟩) (r : Fin a) (l : Fin 1024) :
    broadcastTo ⟨2, ![a, 1024]⟩ x h (at2 r l) = x (at2 0 l) :=
  broadcastTo_apply x h (at2 r l) (at2 0 l) (by intro y; fin_cases y <;> rfl)

theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The device's own number, as the kernel computes it. -/
theorem my_eq (c : Dev nD) : Scalar.remsi (Scalar.divsi (Dev.word c) 1#32) 4#32 = BitVec.ofNat 32 c.val := by
  revert c; decide +kernel

/-- The number of row `r` of the block. -/
theorem row_word (i t r : ℕ) (hi : i < 4) (ht : t < 8) (hr : r < 1024) :
    (IntOp.addi (BitVec.ofNat 32 r) (Scalar.addi (Scalar.muli (BitVec.ofNat 32 i) 8192#32) (Scalar.muli (BitVec.ofNat 32 t) 1024#32))).toInt
      = ((i * 8192 + t * 1024 + r : ℕ) : ℤ) := by
  have e : IntOp.addi (BitVec.ofNat 32 r) (Scalar.addi (Scalar.muli (BitVec.ofNat 32 i) 8192#32) (Scalar.muli (BitVec.ofNat 32 t) 1024#32))
      = BitVec.ofNat 32 (i * 8192 + t * 1024 + r) := by
    show BitVec.ofNat 32 r + (BitVec.ofNat 32 i * BitVec.ofNat 32 8192 + BitVec.ofNat 32 t * BitVec.ofNat 32 1024) = _
    rw [← BitVec.ofNat_mul, ← BitVec.ofNat_mul, ← BitVec.ofNat_add, ← BitVec.ofNat_add, Nat.add_comm]
  rw [e, toInt_small (by omega)]

/-! ## The stored rows at a column -/

section Stored

variable (i : grid0.Coords) (c : Dev nD) (x : S1024x1024.Idx → EReal) (a b : S1x1024.Idx → EReal) (j : S1x1024.Idx)

theorem pay4_eq : k0_pay4 (F := Ideal) x = k0_pay2 (F := Ideal) x := shapeCast_self _ _
theorem pay5_eq : k0_pay5 (F := Ideal) i c x = k0_pay3 (F := Ideal) i c x := shapeCast_self _ _
theorem pay6_eq : k0_pay6 (F := Ideal) x a j = Ideal.cmp .ogt (k0_pay2 (F := Ideal) x j) (a j) := by
  unfold k0_pay6
  exact Ideal.scalar_cmpf_def (φ := .f32) _ _ _
theorem pay7_eq : k0_pay7 (F := Ideal) x a j = Scalar.select (k0_pay6 (F := Ideal) x a j) (k0_pay2 (F := Ideal) x j) (a j) := by
  have e : k0_pay7 (F := Ideal) x a = select (k0_pay6 (F := Ideal) x a) (k0_pay2 (F := Ideal) x) a := shapeCast_self _ _
  rw [e]; rfl
theorem pay8_eq : k0_pay8 (F := Ideal) i c x a b j = Scalar.select (k0_pay6 (F := Ideal) x a j) (k0_pay3 (F := Ideal) i c x j) (b j) := by
  have e : k0_pay8 (F := Ideal) i c x a b = select (k0_pay6 (F := Ideal) x a) (k0_pay3 (F := Ideal) i c x) b := shapeCast_self _ _
  rw [e]; rfl

/-- What the last reduction chooses among: a device's row number where its value is the greatest, and a number beyond all rows elsewhere. -/
def cand {F : FTy → Type} [FloatOps F] (u w : Vec F S4x1x1024 .f32) : FVec F S4x1024 .f32 :=
  select (cmpf .oeq (k0_pay10 u) (broadcastTo S4x1024 (k0_pay11 u) broadcasts_S1x1024_S4x1024)) (shapeCast S4x1024 w shapeCasts_S4x1x1024_S4x1024)
    (broadcast S4x1024 (Scalar.ofBits .f32 0x47800000#32))
theorem cand_apply {F : FTy → Type} [FloatOps F] (u w : Vec F S4x1x1024 .f32) (q : Fin 4) (l : Fin 1024) :
    cand u w (at2 q l) = Scalar.select (FloatOps.cmpf .oeq (k0_pay10 u (at2 q l)) (k0_pay11 u (at2 0 l)))
      (shapeCast S4x1024 w shapeCasts_S4x1x1024_S4x1024 (at2 q l)) (Scalar.ofBits .f32 0x47800000#32) := by
  have e := spread_row (k0_pay11 u) broadcasts_S1x1024_S4x1024 q l
  rw [← e]; rfl

end Stored

section Block

variable (x : S1024x1024.Idx → EReal) (l : Fin 1024) (f : ℕ → EReal) (lo : ℕ) (v : EReal) (k : ℕ)

theorem pay1_eq : k0_pay1 (F := Ideal) x = x := shapeCast_self _ _

variable {x l f lo v k} (hx : ∀ r : Fin 1024, x (at2 r l) = f (lo + r.val)) (h : Best f lo (lo + 1024) v k)
include hx h

theorem pay2_best : k0_pay2 (F := Ideal) x (at2 0 l) = v := by
  refine ((cast_row _ _ _).trans (colMax _ _ _ _ _ _)).trans ?_
  rw [pay1_eq, ofBits_bot]
  refine fold_max_of bot_le (fun r _ => ?_) ⟨⟨k - lo, by have := h.ge; have := h.lt; omega⟩, Finset.mem_univ _, ?_⟩
  · show x (at2 r l) ≤ v
    rw [hx]; exact h.le _ (by omega) (by have := r.isLt; omega)
  · show x (at2 _ l) = v
    rw [hx]
    exact (congrArg f (Nat.add_sub_cancel' h.ge)).trans h.here

theorem pay3_best (i : grid0.Coords) (c : Dev nD) (hi : (i 0).val < 8) (hlo : lo = c.val * 8192 + (i 0).val * 1024) :
    k0_pay3 (F := Ideal) i c x (at2 0 l) = ((k : ℝ) : EReal) := by
  have hc : c.val < 4 := c.isLt
  have hk := h.lt
  have hg := h.ge
  unfold k0_pay3
  simp only [my_eq]
  refine (Ideal.scalar_sitofp_def (φ := .f32) _).trans ?_
  have key : ∀ (src : IVec S1024x1024 32), (∀ r : Fin 1024, (src (at2 r l)).toInt = if f (lo + r.val) = v then ((lo + r.val : ℕ) : ℤ) else 65536) →
      ∀ h1 h2 h3, (shapeCast S1x1024 (multiReductionI .minsi [0] S1024 src 2147483647#32 h1 h2) h3 (at2 0 l)).toInt = (k : ℤ) := by
    intro src hs h1 h2 h3
    rw [cast_row, colMinI]
    refine fold_min_of (by have : (2147483647#32).toInt = 2147483647 := by decide
                           rw [this]; omega) (fun r _ => ?_) ⟨⟨k - lo, by omega⟩, Finset.mem_univ _, ?_⟩
    · show (k : ℤ) ≤ (src (at2 r l)).toInt
      rw [hs]
      split
      · next e =>
        by_contra hlt
        exact (h.first (lo + r.val) (by omega) (by omega)).ne e
      · omega
    · show (src (at2 _ l)).toInt = (k : ℤ)
      rw [hs]
      have e : lo + (k - lo) = k := by omega
      show (if f (lo + (k - lo)) = v then ((lo + (k - lo) : ℕ) : ℤ) else 65536) = _
      rw [e, if_pos h.here]
  refine (congrArg (fun z : ℤ => ((z : ℝ) : EReal)) (key _ (fun r => ?_) _ _ _)).trans ?_
  rotate_left
  · simp
  · have hp := pay2_best hx h
    show (Scalar.select (Ideal.cmp .oeq (k0_pay1 (F := Ideal) x (at2 r l)) (broadcastTo S1024x1024 (k0_pay2 (F := Ideal) x) broadcasts_S1x1024_S1024x1024 (at2 r l)))
      (IntOp.addi (BitVec.ofNat 32 (0 * 1024 + r.val)) (Scalar.addi (Scalar.muli (BitVec.ofNat 32 c.val) 8192#32) (Scalar.muli (BitVec.ofNat 32 (i 0).val) 1024#32))) 65536#32).toInt = _
    rw [spread_row, hp, pay1_eq, hx, Nat.zero_mul, Nat.zero_add]
    by_cases e : f (lo + r.val) = v
    · rw [if_pos e]
      have e1 : Ideal.cmp .oeq (f (lo + r.val)) v = 1#1 := by simp [Ideal.cmp, e]
      rw [e1]
      refine (row_word c.val (i 0).val r.val hc hi r.isLt).trans ?_
      rw [hlo]
    · rw [if_neg e]
      have e1 : Ideal.cmp .oeq (f (lo + r.val)) v = 0#1 := by simp [Ideal.cmp, e]
      rw [e1]
      show (65536#32).toInt = 65536
      decide

end Block

end Cert.KernelIdeal.Max
-- ==== Proof.KernelIdeal.Total.lean ====
/- What the kernel's result is: each column's greatest value over all four devices' rows, and the first row it stands in. -/
module

public import proofs.«01_k».proof.Proof.KernelIdeal.Block
public import proofs.«01_k».proof.Proof.KernelIdeal.Points
public import Idealize.ShloMosaic.Lib.Layout

@[expose] public section

set_option maxRecDepth 16384

noncomputable section

namespace Cert.KernelIdeal.Max

open Cert.KernelIdeal Cert.KernelIdeal.Gen Cert.Max
open Idealize.ShloMosaic Idealize.ShloMosaic.TcCoe

variable (m : (ℓ : Loc nD τ sig) → Buf (Elt Ideal) ℓ) (X : (⟨2, ![32768, 1024]⟩ : Shape).Idx → EReal)

/-- Each device holds its quarter of the rows. -/
def Agree : Prop := ∀ c : Dev nD, m ((c : Thread nD τ).loc main_arg0) = Layout.block ⟨2, ![8192, 1024]⟩ ⟨2, ![32768, 1024]⟩ 0 4 c X

theorem index_eq (t : Fin grid0.N) : win0_0.index t 0 = t.val ∧ win0_0.index t 1 = 0 := by revert t; decide +kernel

theorem accV_01 (c : Dev nD) : (accV m c 0).1 = k0_pay4 (xblk m c (pt 0)) := by simp only [accV]
theorem accV_02 (c : Dev nD) : (accV m c 0).2 = k0_pay5 (grid0.coords (pt 0)) c (xblk m c (pt 0)) := by simp only [accV]
theorem accV_succ1 (c : Dev nD) (n : ℕ) : (accV m c (n + 1)).1 = k0_pay7 (xblk m c (pt (n + 1))) (accV m c n).1 := by simp only [accV]
theorem accV_succ2 (c : Dev nD) (n : ℕ) : (accV m c (n + 1)).2
    = k0_pay8 (grid0.coords (pt (n + 1))) c (xblk m c (pt (n + 1))) (accV m c n).1 (accV m c n).2 := by simp only [accV]

variable {m X} (hm : Agree m X)
include hm

/-- Row `r` of the block read at point `t` of device `c`. -/
theorem xblk_row (c : Dev nD) (t : Fin grid0.N) (r l : Fin 1024) :
    xblk m c t (at2 r l) = column X l (c.val * 8192 + t.val * 1024 + r.val) := by
  have hc : c.val < 4 := c.isLt
  have ht : t.val < 8 := lt8 t
  have hr := r.isLt
  obtain ⟨e0, e1⟩ := index_eq t
  show m ((c : Thread nD τ).loc main_arg0) ((win0_0.blk t).view.emb (at2 r l)) = _
  rw [hm c]
  unfold column
  rw [dif_pos (by omega)]
  refine congrArg X (funext fun a => Fin.ext ?_)
  fin_cases a
  · show c.val * 8192 + (win0_0.index t 0 * 1024 + 1 * r.val) = c.val * 8192 + t.val * 1024 + r.val
    rw [e0]; omega
  · show win0_0.index t 1 * 1024 + 1 * l.val = l.val
    rw [e1]; omega

/-- After point `n` device `c` has the best of its first `n + 1` blocks. -/
theorem acc_best (c : Dev nD) (l : Fin 1024) : ∀ n, n < 8 → ∃ v k, Best (column X l) (c.val * 8192) (c.val * 8192 + (n + 1) * 1024) v k
      ∧ (accV m c n).1 (at2 0 l) = v ∧ (accV m c n).2 (at2 0 l) = ((k : ℝ) : EReal)
  | 0, h => by
    obtain ⟨v, k, hb⟩ := Best.exists_run (column X l) (c.val * 8192) 1023
    have hx : ∀ r : Fin 1024, xblk m c (pt 0) (at2 r l) = column X l (c.val * 8192 + r.val) := fun r => by
      rw [xblk_row hm]
      show column X l (c.val * 8192 + 0 % 8 * 1024 + r.val) = _
      norm_num
    have hv : ((grid0.coords (pt 0)) 0).val = 0 := coord_val (pt 0)
    refine ⟨v, k, hb, ?_, ?_⟩
    · rw [accV_01, pay4_eq]
      exact pay2_best hx hb
    · rw [accV_02, pay5_eq]
      exact pay3_best hx hb (grid0.coords (pt 0)) c (by omega) (by omega)
  | n + 1, h => by
    obtain ⟨v, k, hb, e1, e2⟩ := acc_best c l n (by omega)
    obtain ⟨v', k', hb'⟩ := Best.exists_run (column X l) (c.val * 8192 + (n + 1) * 1024) 1023
    have hp : (pt (n + 1)).val = n + 1 := Nat.mod_eq_of_lt h
    have hx : ∀ r : Fin 1024, xblk m c (pt (n + 1)) (at2 r l) = column X l (c.val * 8192 + (n + 1) * 1024 + r.val) := fun r => by
      rw [xblk_row hm, hp]
    have hv : ((grid0.coords (pt (n + 1))) 0).val = n + 1 := (coord_val (pt (n + 1))).trans hp
    have p2 := pay2_best hx hb'
    have p3 := pay3_best hx hb' (grid0.coords (pt (n + 1))) c (by omega) (by rw [hv])
    have hend : c.val * 8192 + (n + 1) * 1024 + (1023 + 1) = c.val * 8192 + (n + 1 + 1) * 1024 := by omega
    rw [hend] at hb'
    have s1 : (accV m c (n + 1)).1 (at2 0 l) = Scalar.select (Ideal.cmp .ogt v' v) v' v := by
      rw [accV_succ1, pay7_eq, pay6_eq, p2, e1]
    have s2 : (accV m c (n + 1)).2 (at2 0 l) = Scalar.select (Ideal.cmp .ogt v' v) ((k' : ℝ) : EReal) ((k : ℝ) : EReal) := by
      rw [accV_succ2, pay8_eq, pay6_eq, p2, p3, e1, e2]
    rw [s1, s2]
    by_cases hlt : v < v'
    · have e : Ideal.cmp .ogt v' v = 1#1 := by simp [Ideal.cmp, hlt]
      rw [e]
      exact ⟨v', k', hb.later hb' hlt, rfl, rfl⟩
    · have e : Ideal.cmp .ogt v' v = 0#1 := by simp [Ideal.cmp, hlt]
      rw [e]
      exact ⟨v, k, hb.earlier hb' hlt, rfl, rfl⟩

omit hm in
theorem pay10_row (acc : Dev nD → S2x1024.Idx → EReal) (r : Fin 2) (q : Fin 4) (l : Fin 1024) (h : S4x1x1024.ShapeCasts S4x1024) :
    shapeCast S4x1024 (rows (F := Ideal) acc r) h (at2 q l) = acc q (rc r l) :=
  shapeCast_apply _ h (at2 q l) (fun | ⟨0, _⟩ => q | ⟨1, _⟩ => (0 : Fin 1) | ⟨2, _⟩ => l) (by
    rw [Shape.rowMajor_val_two, Shape.rowMajor_val_three]
    show (q.val * 1 + 0) * 1024 + l.val = q.val * 1024 + l.val
    omega)

omit hm in
theorem stack_0 (a b : S1x1024.Idx → EReal) (l : Fin 1024) : stack (F := Ideal) a b (rc 0 l) = a (at2 0 l) := by
  show a (col (rc 0 l)) = _
  exact congrArg a (funext fun x => by fin_cases x <;> rfl)
omit hm in
theorem stack_1 (a b : S1x1024.Idx → EReal) (l : Fin 1024) : stack (F := Ideal) a b (rc 1 l) = b (at2 0 l) := by
  show b (col (rc 1 l)) = _
  exact congrArg b (funext fun x => by fin_cases x <;> rfl)

/-- The result: the best of all the rows. -/
theorem out_best (l : Fin 1024) {v : EReal} {k : ℕ} (hb : Best (column X l) 0 32768 v k) :
    outC m (rc 0 l) = v ∧ outC m (rc 1 l) = ((k : ℝ) : EReal) := by
  have hk := hb.lt
  have H : ∀ q : Fin 4, ∃ w i, Best (column X l) (q.val * 8192) (q.val * 8192 + 8192) w i
      ∧ accS m 7 q (rc 0 l) = w ∧ accS m 7 q (rc 1 l) = ((i : ℝ) : EReal) := fun q => by
    obtain ⟨w, i, h1, h2, h3⟩ := acc_best hm q l 7 (by decide)
    exact ⟨w, i, h1, (stack_0 _ _ l).trans h2, (stack_1 _ _ l).trans h3⟩
  choose V K hB hV hK using H
  have le_v : ∀ q, V q ≤ v := fun q => by
    rw [← (hB q).here]
    have := (hB q).lt; have := q.isLt
    exact hb.le _ (Nat.zero_le _) (by omega)
  let q₀ : Fin 4 := ⟨k / 8192, by omega⟩
  have h₀ := (hB q₀).unique (hb.part (lo' := q₀.val * 8192) (hi' := q₀.val * 8192 + 8192) (Nat.zero_le _)
    (by show k / 8192 * 8192 + 8192 ≤ 32768; omega) (by show k / 8192 * 8192 ≤ k; omega) (by show k < k / 8192 * 8192 + 8192; omega))
  have le_k : ∀ q, V q = v → k ≤ K q := fun q e => by
    by_contra hlt
    exact (hb.first (K q) (Nat.zero_le _) (by omega)).ne ((hB q).here.trans e)
  have hmax : k0_pay11 (F := Ideal) (rows (accS m 7) 0) (at2 0 l) = v := by
    refine ((cast_row _ _ _).trans (colMax _ _ _ _ _ _)).trans ?_
    rw [ofBits_bot]
    have e : ∀ q : Fin 4, k0_pay10 (F := Ideal) (rows (accS m 7) 0) (at2 q l) = V q := fun q => (pay10_row _ 0 q l _).trans (hV q)
    exact fold_max_of bot_le (fun q _ => (e q).le.trans (le_v q)) ⟨q₀, Finset.mem_univ _, (e q₀).trans h₀.1⟩
  refine ⟨(stack_0 _ _ l).trans hmax, (stack_1 _ _ l).trans ?_⟩
  have key : ∀ (src : FVec Ideal S4x1024 .f32), (∀ q : Fin 4, src (at2 q l) = if V q = v then ((K q : ℝ) : EReal) else ((65536 : ℝ) : EReal)) →
      ∀ h1 h2 h3 h4, shapeCast S1x1024 (multiReduction .minimumf [0] S1024 src 0x7F800000#32 h1 h2 h3) h4 (at2 0 l) = ((k : ℝ) : EReal) := by
    intro src hs h1 h2 h3 h4
    rw [cast_row, colMin, ofBits_top]
    refine fold_min_of le_top (fun q _ => ?_) ⟨q₀, Finset.mem_univ _, ?_⟩
    · show ((k : ℝ) : EReal) ≤ src (at2 q l)
      rw [hs]
      split
      · next e => exact_mod_cast le_k q e
      · exact EReal.coe_le_coe_iff.mpr (by have : (k : ℝ) ≤ (65536 : ℕ) := by exact_mod_cast (by omega : k ≤ 65536)
                                           exact_mod_cast this)
    · show src (at2 q₀ l) = _
      rw [hs, if_pos h₀.1, h₀.2]
  have hc : k0_pay12 (F := Ideal) (rows (accS m 7) 0) (rows (accS m 7) 1)
      = shapeCast S1x1024 (multiReduction .minimumf [0] S1024 (cand (F := Ideal) (rows (accS m 7) 0) (rows (accS m 7) 1)) 0x7F800000#32
          reduces_S4x1024_S1024 (.inl rfl) rfl) shapeCasts_S1024_S1x1024 := by unfold k0_pay12 cand; rfl
  rw [hc]
  refine key _ (fun q => ?_) _ _ _ _
  have e10 : k0_pay10 (F := Ideal) (rows (accS m 7) 0) (at2 q l) = V q := (pay10_row _ 0 q l _).trans (hV q)
  rw [cand_apply, hmax, pay10_row, hK, e10, Ideal.cmpf_def, show Scalar.ofBits (F := Ideal) .f32 0x47800000#32 = ((65536 : ℝ) : EReal) from ofBits_65536]
  by_cases e : V q = v
  · rw [if_pos e]
    have e1 : Ideal.cmp .oeq (V q) v = 1#1 := by simp [Ideal.cmp, e]
    rw [e1]; rfl
  · rw [if_neg e]
    have e1 : Ideal.cmp .oeq (V q) v = 0#1 := by simp [Ideal.cmp, e]
    rw [e1]; rfl

end Cert.KernelIdeal.Max
-- ==== Proof.ReferenceIdeal.Value.lean ====
/- What the reference's result is: each column's greatest value and the first row it stands in. -/
module

public import proofs.«01_k».proof.Proof.Best
public import proofs.«01_k».proof.Proof.ReferenceIdeal.Run

@[expose] public section

set_option maxRecDepth 16384

noncomputable section

namespace Cert.ReferenceIdeal.Max

open Cert.ReferenceIdeal Cert.ReferenceIdeal.Gen Cert.Max
open Idealize.ShloMosaic

/-! ## Picking the first greatest pair of a list -/

/-- `a` is at least `b`, and not behind it if their values are equal. -/
def Beats (a b : EReal × BitVec 32) : Prop := b.1 ≤ a.1 ∧ (b.1 = a.1 → a.2.toInt ≤ b.2.toInt)

theorem Beats.trans {a b c : EReal × BitVec 32} (h : Beats a b) (h' : Beats b c) : Beats a c :=
  ⟨h'.1.trans h.1, fun e => by
    have e1 : b.1 = a.1 := le_antisymm h.1 (e ▸ h'.1)
    exact (h.2 e1).trans (h'.2 (e.trans e1.symm))⟩

theorem pick_eq (a b : EReal × BitVec 32) : reducer_argmax_f32_i32 (F := Ideal) a b
    = if b.1 < a.1 then a else if a.1 = b.1 then (if a.2.toInt < b.2.toInt then (b.1, a.2) else b) else b := by
  have e3 : Ideal.cmp .une a.1 a.1 = 0#1 := by simp [Ideal.cmp]
  unfold reducer_argmax_f32_i32
  simp only [Ideal.cmpf_def, e3]
  by_cases h1 : b.1 < a.1
  · have e1 : Ideal.cmp .ogt a.1 b.1 = 1#1 := by simp [Ideal.cmp, h1]
    have e2 : Ideal.cmp .oeq a.1 b.1 = 0#1 := by simp [Ideal.cmp, h1.ne']
    rw [if_pos h1, e1, e2]
    have t1 : IntOp.ori (1#1) (0#1) = 1#1 := by decide
    have t2 : ∀ z : BitVec 1, IntOp.ori (1#1) (IntOp.andi (0#1) z) = 1#1 := by decide
    rw [t1, t2]; rfl
  · have e1 : Ideal.cmp .ogt a.1 b.1 = 0#1 := by simp [Ideal.cmp, h1]
    have t1 : IntOp.ori (0#1) (0#1) = 0#1 := by decide
    rw [if_neg h1, e1, t1]
    by_cases h2 : a.1 = b.1
    · have e2 : Ideal.cmp .oeq a.1 b.1 = 1#1 := by simp [Ideal.cmp, h2]
      have t2 : ∀ z : BitVec 1, IntOp.ori (0#1) (IntOp.andi (1#1) z) = z := by decide
      rw [if_pos h2, e2, t2]
      by_cases h3 : a.2.toInt < b.2.toInt
      · have e4 : IntOp.cmpi .slt a.2 b.2 = 1#1 := by simp [IntOp.cmpi, BitVec.slt, h3]
        rw [if_pos h3, e4]; rfl
      · have e4 : IntOp.cmpi .slt a.2 b.2 = 0#1 := by simp [IntOp.cmpi, BitVec.slt, h3]
        rw [if_neg h3, e4]; rfl
    · have e2 : Ideal.cmp .oeq a.1 b.1 = 0#1 := by simp [Ideal.cmp, h2]
      have t2 : ∀ z : BitVec 1, IntOp.ori (0#1) (IntOp.andi (0#1) z) = 0#1 := by decide
      rw [if_neg h2, e2, t2]; rfl

theorem pick_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  rw [pick_eq]
  have self : ∀ p : EReal × BitVec 32, Beats p p := fun p => ⟨le_rfl, fun _ => le_rfl⟩
  by_cases h1 : b.1 < a.1
  · rw [if_pos h1]
    exact ⟨Or.inl rfl, self a, h1.le, fun e => absurd e h1.ne⟩
  · rw [if_neg h1]
    by_cases h2 : a.1 = b.1
    · rw [if_pos h2]
      by_cases h3 : a.2.toInt < b.2.toInt
      · rw [if_pos h3, ← h2]
        exact ⟨Or.inl rfl, self a, h2.ge, fun _ => h3.le⟩
      · rw [if_neg h3]
        exact ⟨Or.inr rfl, ⟨h2.le, fun _ => not_lt.mp h3⟩, self b⟩
    · rw [if_neg h2]
      exact ⟨Or.inr rfl, ⟨not_lt.mp h1, fun e => absurd e h2⟩, self b⟩

theorem fold_spec (L : List (EReal × BitVec 32)) : ∀ a : EReal × BitVec 32,
    (L.foldl (reducer_argmax_f32_i32 (F := Ideal)) a = a ∨ L.foldl (reducer_argmax_f32_i32 (F := Ideal)) a ∈ L)
      ∧ Beats (L.foldl (reducer_argmax_f32_i32 (F := Ideal)) a) a ∧ ∀ p ∈ L, Beats (L.foldl (reducer_argmax_f32_i32 (F := Ideal)) a) p := by
  induction L with
  | nil => exact fun a => ⟨Or.inl rfl, ⟨le_rfl, fun _ => le_rfl⟩, fun p hp => absurd hp List.not_mem_nil⟩
  | cons b L ih =>
    intro a
    obtain ⟨s1, s2, s3⟩ := pick_spec a b
    obtain ⟨i1, i2, i3⟩ := ih (reducer_argmax_f32_i32 (F := Ideal) a b)
    rw [List.foldl_cons]
    refine ⟨?_, i2.trans s2, fun p hp => ?_⟩
    · rcases i1 with e | e
      · rcases s1 with e' | e'
        · exact Or.inl (e.trans e')
        · exact Or.inr (List.mem_cons.mpr (Or.inl (e.trans e')))
      · exact Or.inr (List.mem_cons_of_mem _ e)
    · rcases List.mem_cons.mp hp with rfl | hp
      · exact i2.trans s3
      · exact i3 p hp

/-! ## The two rows of the result -/

theorem reduces_whole : S32768x1024.Reduces [0] S1024 := by decide

theorem small {n : ℕ} (h : n < 32768) : (BitVec.ofNat 32 n).toInt = n := by
  rw [BitVec.toInt_eq_toNat_of_lt (by rw [BitVec.toNat_ofNat]; omega), BitVec.toNat_ofNat, Nat.mod_eq_of_lt (by omega)]

/-- A float arg-max's place is that of a pair of the column, or the starting one, that beats them all. -/
theorem place_spec {s t u : Shape} {axes : List (Fin s.rank)}
    (x : FVec Ideal s .f32) (y : s.Idx → BitVec 32) (ix : FVec Ideal u .f32) (iy : u.Idx → BitVec 32) (h : s.ReducesTo axes t) (hu : 0 < u.numel)
    (j : t.Idx) (a : EReal) (b : BitVec 32) (ha : ix (Shape.Idx.first hu) = a) (hb : iy (Shape.Idx.first hu) = b) :
    ∃ p : EReal × BitVec 32, second (Host.argReduce (F := Ideal) (φ := .f32) (reducer_argmax_f32_i32 (F := Ideal)) x y ix iy h hu) j = p.2
      ∧ (p = (a, b) ∨ p ∈ Host.argReduceFiber x y h j) ∧ ∀ q ∈ Host.argReduceFiber x y h j, Beats p q := by
  obtain ⟨h1, -, h3⟩ := fold_spec (Host.argReduceFiber x y h j) (a, b)
  refine ⟨_, ?_, h1, h3⟩
  unfold second
  rw [Ideal.argReduce_eq_reduce2, Host.reduce2_eq_foldl_fiber, ha, hb]

section Column

variable {X : S32768x1024.Idx → EReal} {l : Fin 1024} {v : EReal} {k : ℕ} (hb : Best (column X l) 0 32768 v k)
include hb

omit hb in
theorem at_row (r : Fin 32768) : X (at2 r l) = column X l r.val := by
  unfold column; rw [dif_pos r.isLt]

theorem maxR_best : maxR (F := Ideal) X (at1 l) = v := by
  refine (Host.reduce_eq_fold_single (FloatOps.maximumf (F := Ideal) (φ := .f32)) X _ reducesTo_S32768x1024_S1024_d0 reduces_whole h_S_ (at1 l)).trans ?_
  refine fold_max_of (β := EReal) ?_ (fun r _ => ?_) ⟨⟨k, hb.lt⟩, Finset.mem_univ _, ?_⟩
  · show Ideal.ofBits .f32 0xFF800000#32 ≤ v
    rw [ofBits_bot]; exact bot_le
  · show X (reduces_whole.lift (at1 l) r) ≤ v
    exact (((congrArg X (lift_eq reduces_whole (at1 l) r)).trans (at_row r)).le).trans (hb.le _ (Nat.zero_le _) r.isLt)
  · show X (reduces_whole.lift (at1 l) ⟨k, hb.lt⟩) = v
    exact ((congrArg X (lift_eq reduces_whole (at1 l) ⟨k, hb.lt⟩)).trans (at_row ⟨k, hb.lt⟩)).trans hb.here

omit hb in
theorem mem_fiber (p : EReal × BitVec 32) : p ∈ Host.argReduceFiber X rowIx reducesTo_S32768x1024_S1024_d0 (at1 l)
    ↔ ∃ r : Fin 32768, p = (column X l r.val, BitVec.ofNat 32 r.val) := by
  unfold Host.argReduceFiber
  simp only [List.mem_map, List.mem_filter, List.mem_finRange, true_and, decide_eq_true_eq]
  constructor
  · rintro ⟨n, hn, rfl⟩
    have hn' : reduces_whole.drop (S32768x1024.rowMajor.symm n) = at1 l := hn
    have e : S32768x1024.rowMajor.symm n = at2 (S32768x1024.rowMajor.symm n 0) l := by
      conv_lhs => rw [← reduces_whole.lift_drop (S32768x1024.rowMajor.symm n), hn']
      exact lift_eq reduces_whole (at1 l) _
    refine ⟨S32768x1024.rowMajor.symm n 0, Prod.ext ?_ rfl⟩
    exact (congrArg X e).trans (at_row _)
  · rintro ⟨r, rfl⟩
    refine ⟨S32768x1024.rowMajor (at2 r l), ?_, ?_⟩
    · rw [Equiv.symm_apply_apply]
      show reduces_whole.drop (at2 r l) = at1 l
      exact (congrArg reduces_whole.drop (lift_eq reduces_whole (at1 l) r)).symm.trans (reduces_whole.drop_lift (at1 l) r)
    · rw [Equiv.symm_apply_apply]
      exact Prod.ext (at_row r) rfl

/-- A pair that beats the starting pair and every row's, and is one of them, has the best's row. -/
theorem pick_best (p : EReal × BitVec 32) (h1 : p = ((⊥ : EReal), 0#32) ∨ ∃ r : Fin 32768, p = (column X l r.val, BitVec.ofNat 32 r.val))
    (h3 : ∀ r : Fin 32768, Beats p (column X l r.val, BitVec.ofNat 32 r.val)) : p.2.toInt = (k : ℤ) := by
  have hk := hb.lt
  obtain ⟨g1, g2⟩ := h3 ⟨k, hk⟩
  dsimp only at g1 g2
  rw [hb.here] at g1 g2
  have row : ∃ r : ℕ, r < 32768 ∧ p.2.toInt = r ∧ column X l r = p.1 := by
    rcases h1 with rfl | ⟨r, rfl⟩
    · refine ⟨0, by omega, by simp, ?_⟩
      exact le_bot_iff.mp ((hb.le 0 le_rfl (by omega)).trans g1)
    · exact ⟨r.val, r.isLt, small r.isLt, rfl⟩
  obtain ⟨r, hr, e1, e2⟩ := row
  have hv : v = p.1 := le_antisymm g1 (e2 ▸ hb.le _ (Nat.zero_le _) hr)
  have hle := g2 hv
  rw [small hk, e1] at hle
  rw [e1]
  refine le_antisymm hle ?_
  by_contra hlt
  exact (hb.first r (Nat.zero_le _) (by omega)).ne (e2.trans hv.symm)

theorem argR_best : (argR (F := Ideal) X (at1 l)).toInt = (k : ℤ) := by
  have ha : (constant S_ .f32 0xFF800000#32 : FVec Ideal S_ .f32) (Shape.Idx.first h_S_) = (⊥ : EReal) := ofBits_bot
  have hc : (constantI S_ 32 0#32) (Shape.Idx.first h_S_) = 0#32 := rfl
  obtain ⟨p, e, h1, h3⟩ := place_spec X rowIx (constant S_ .f32 0xFF800000#32 : FVec Ideal S_ .f32) (constantI S_ 32 0#32)
    reducesTo_S32768x1024_S1024_d0 h_S_ (at1 l) ⊥ 0#32 ha hc
  unfold argR
  rw [e]
  exact pick_best hb p (h1.imp id (mem_fiber p).mp) fun r => h3 _ ((mem_fiber _).mpr ⟨r, rfl⟩)

theorem ref_best : refOut (F := Ideal) X (at2 0 l) = v ∧ refOut (F := Ideal) X (at2 1 l) = ((k : ℝ) : EReal) := by
  have row : ∀ (x : S1024.Idx → EReal), broadcastInDim S1x1024 ![1] bcast_S1024_S1x1024_1 x (at2 0 l) = x (at1 l) := fun x =>
    broadcastInDim_apply ![1] bcast_S1024_S1x1024_1 x (at2 0 l) (at1 l) (by intro a; fin_cases a; rfl)
  have two : ∀ a b : S1x1024.Idx → EReal, concatenate S2x1024 0 [⟨S1x1024, a⟩, ⟨S1x1024, b⟩] concatenates_S1x1024_S1x1024_S2x1024_d0 (at2 0 l) = a (at2 0 l)
      ∧ concatenate S2x1024 0 [⟨S1x1024, a⟩, ⟨S1x1024, b⟩] concatenates_S1x1024_S1x1024_S2x1024_d0 (at2 1 l) = b (at2 0 l) := fun a b =>
    ⟨concatenate_pair_apply_left (t := S2x1024) (s₁ := S1x1024) (s₂ := S1x1024) 0 a b _ (at2 0 l) rfl (at2 0 l) (by intro x; fin_cases x <;> rfl),
     concatenate_pair_apply_right (t := S2x1024) (s₁ := S1x1024) (s₂ := S1x1024) 0 a b _ (at2 1 l) rfl rfl (at2 0 l)
      (by intro x hx; fin_cases x; · exact absurd rfl hx
          · rfl) rfl⟩
  refine ⟨(two _ _).1.trans ((row _).trans (maxR_best hb)), (two _ _).2.trans ((row _).trans ?_)⟩
  exact (Ideal.scalar_sitofp_def (φ := .f32) _).trans ((congrArg (fun z : ℤ => ((z : ℝ) : EReal)) (argR_best hb)).trans (by simp))

end Column

end Cert.ReferenceIdeal.Max
-- ==== Proof.Equal.lean ====
/- The kernel's result and the reference's are the same two rows. -/
module

public import proofs.«01_k».proof.Proof.KernelIdeal.Total
public import proofs.«01_k».proof.Proof.ReferenceIdeal.Value

@[expose] public section

set_option maxRecDepth 16384

noncomputable section

namespace Cert.Max

open Idealize.ShloMosaic

theorem out_eq (m : (ℓ : Loc Cert.KernelIdeal.nD Cert.KernelIdeal.τ Cert.KernelIdeal.sig) → Buf (Elt Ideal) ℓ)
    (X : (⟨2, ![32768, 1024]⟩ : Shape).Idx → EReal) (hm : Cert.KernelIdeal.Max.Agree m X) :
    Cert.KernelIdeal.Max.outC m = Cert.ReferenceIdeal.Max.refOut (F := Ideal) X := by
  have e : ∀ (r : Fin 2) (l : Fin 1024), Cert.KernelIdeal.Max.outC m (at2 r l) = Cert.ReferenceIdeal.Max.refOut (F := Ideal) X (at2 r l) := by
    intro r l
    obtain ⟨v, k, hb⟩ := Best.exists_run (column X l) 0 32767
    have hb' : Best (column X l) 0 32768 v k := ⟨fun n a b => hb.le n a (by omega), hb.ge, by have := hb.lt; omega, hb.here, hb.first⟩
    have hk := Cert.KernelIdeal.Max.out_best hm l hb'
    have hr := Cert.ReferenceIdeal.Max.ref_best hb'
    have rc_eq : ∀ r : Fin 2, Cert.KernelIdeal.Max.rc r l = at2 r l := fun r => funext fun x => by fin_cases x <;> rfl
    rw [rc_eq, rc_eq] at hk
    have hr2 : r = 0 ∨ r = 1 := by omega
    rcases hr2 with rfl | rfl
    · exact hk.1.trans hr.1.symm
    · exact hk.2.trans hr.2.symm
  funext i
  have hi := at2_self (a := 2) (b := 1024) i
  rw [hi]
  exact e (i 0) (i 1)

end Cert.Max
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Result
public import proofs.«01_k».proof.Proof.KernelIdeal.Result
public import proofs.«01_k».proof.Proof.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

theorem frame_p : Cert.quiescent_Kernel := fun m g _ =>
  θ_run_mono (Cert.Kernel.Max.run_out m g) fun _ h => ⟨fun c => (h.1 c).2, h.2⟩
theorem frame_pi : Cert.quiescent_KernelIdeal := fun m g _ =>
  θ_run_mono (Cert.KernelIdeal.Max.run_out m g) fun _ h => ⟨fun c => (h.1 c).2, h.2⟩
theorem frame_ri : Cert.quiescent_ReferenceIdeal := fun m g _ =>
  θ_run_mono (Cert.ReferenceIdeal.Max.run_ref m g) fun _ h => ⟨fun c => (h.1 c).2, h.2⟩

theorem algebraic : Cert.algebraic_KernelIdeal_ReferenceIdeal := fun m g m' g' _ hm =>
  ⟨Cert.ReferenceIdeal.Max.refOut (F := Ideal) (m' (((0 : Dev Cert.ReferenceIdeal.nD).tc : Thread Cert.ReferenceIdeal.nD Cert.ReferenceIdeal.τ).loc Cert.ReferenceIdeal.main_arg0)),
    θ_run_mono (Cert.KernelIdeal.Max.run_out m g) fun _ h c => ⟨(h.1 c).1.trans (Cert.Max.out_eq m _ hm), (h.1 c).2⟩,
    θ_run_mono (Cert.ReferenceIdeal.Max.run_ref m' g') fun _ h => h.1 0⟩

theorem claim : Cert.Claim :=
  ⟨Cert.Kernel.Gen.facts, Cert.KernelIdeal.Gen.facts, Cert.ReferenceIdeal.Gen.facts, frame_p, frame_pi, frame_ri, trivial, algebraic⟩

end Cert.Proof

end
